-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_indices) = v5 c
          ∧ r.2.mem ((c.tc : Thread Cert.ReferenceIdeal.nD Cert.ReferenceIdeal.τ).loc Cert.ReferenceIdeal.main_indices_19) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x196x768 : Shape := ⟨3, ![64, 196, 768]⟩
abbrev S64x196x196 : Shape := ⟨3, ![64, 196, 196]⟩
abbrev S64x1x196 : Shape := ⟨3, ![64, 1, 196]⟩
abbrev S64x196x3 : Shape := ⟨3, ![64, 196, 3]⟩
abbrev S64x196 : Shape := ⟨2, ![64, 196]⟩
abbrev S_ : Shape := ⟨0, ![]⟩
abbrev S1x196x768 : Shape := ⟨3, ![1, 196, 768]⟩
abbrev S1x196x196 : Shape := ⟨3, ![1, 196, 196]⟩
abbrev S1x1x196 : Shape := ⟨3, ![1, 1, 196]⟩
abbrev S1x196x3 : Shape := ⟨3, ![1, 196, 3]⟩
abbrev S196x768 : Shape := ⟨2, ![196, 768]⟩
abbrev S196x256 : Shape := ⟨2, ![196, 256]⟩
abbrev S196 : Shape := ⟨1, ![196]⟩
abbrev S196x1 : Shape := ⟨2, ![196, 1]⟩
abbrev S196x196 : Shape := ⟨2, ![196, 196]⟩
abbrev S1x196 : Shape := ⟨2, ![1, 196]⟩
abbrev S1x196x1 : Shape := ⟨3, ![1, 196, 1]⟩
abbrev S1 : Shape := ⟨1, ![1]⟩
abbrev S1x1x1 : Shape := ⟨3, ![1, 1, 1]⟩
abbrev S196x3 : Shape := ⟨2, ![196, 3]⟩

abbrev nBuf : Space → Nat
  | .hbm => 21
  | .vmem => 18
  | .smem => 0
  | _ => 0

abbrev bufTy : (tb : Table) → Fin (tcTables nBuf tb) → BufTy
  | .hbm, ⟨0, _⟩ => ⟨S64x196x768, .f32⟩
  | .hbm, ⟨1, _⟩ => ⟨S64x196x768, .f32⟩
  | .hbm, ⟨2, _⟩ => ⟨S64x196x196, .f32⟩
  | .hbm, ⟨3, _⟩ => ⟨S64x1x196, .f32⟩
  | .hbm, ⟨4, _⟩ => ⟨S64x1x196, .f32⟩
  | .hbm, ⟨5, _⟩ => ⟨S64x1x196, .i32⟩
  | .hbm, ⟨6, _⟩ => ⟨S64x1x196, .i32⟩
  | .hbm, ⟨7, _⟩ => ⟨S64x196x3, .i32⟩
  | .hbm, ⟨8, _⟩ => ⟨S64x196x3, .i32⟩
  | .hbm, ⟨9, _⟩ => ⟨S64x196, .f32⟩
  | .hbm, ⟨10, _⟩ => ⟨S64x196, .f32⟩
  | .hbm, ⟨11, _⟩ => ⟨S64x196, .i32⟩
  | .hbm, ⟨12, _⟩ => ⟨S_, .i32⟩
  | .hbm, ⟨13, _⟩ => ⟨S64x196, .i32⟩
  | .hbm, ⟨14, _⟩ => ⟨S64x196, .i1⟩
  | .hbm, ⟨15, _⟩ => ⟨S64x196, .i1⟩
  | .hbm, ⟨16, _⟩ => ⟨S64x196, .i32⟩
  | .hbm, ⟨17, _⟩ => ⟨S_, .i32⟩
  | .hbm, ⟨18, _⟩ => ⟨S64x196, .i32⟩
  | .hbm, ⟨19, _⟩ => ⟨S64x196, .i1⟩
  | .hbm, ⟨20, _⟩ => ⟨S64x196, .i1⟩
  | .local _ .vmem, ⟨0, _⟩ => ⟨S1x196x768, .f32⟩
  | .local _ .vmem, ⟨1, _⟩ => ⟨S1x196x768, .f32⟩
  | .local _ .vmem, ⟨2, _⟩ => ⟨S1x196x768, .f32⟩
  | .local _ .vmem, ⟨3, _⟩ => ⟨S1x196x768, .f32⟩
  | .local _ .vmem, ⟨4, _⟩ => ⟨S1x196x196, .f32⟩
  | .local _ .vmem, ⟨5, _⟩ => ⟨S1x196x196, .f32⟩
  | .local _ .vmem, ⟨6, _⟩ => ⟨S1x1x196, .f32⟩
  | .local _ .vmem, ⟨7, _⟩ => ⟨S1x1x196, .f32⟩
  | .local _ .vmem, ⟨8, _⟩ => ⟨S1x1x196, .f32⟩
  | .local _ .vmem, ⟨9, _⟩ => ⟨S1x1x196, .f32⟩
  | .local _ .vmem, ⟨10, _⟩ => ⟨S1x1x196, .i32⟩
  | .local _ .vmem, ⟨11, _⟩ => ⟨S1x1x196, .i32⟩
  | .local _ .vmem, ⟨12, _⟩ => ⟨S1x1x196, .i32⟩
  | .local _ .vmem, ⟨13, _⟩ => ⟨S1x1x196, .i32⟩
  | .local _ .vmem, ⟨14, _⟩ => ⟨S1x196x3, .i32⟩
  | .local _ .vmem, ⟨15, _⟩ => ⟨S1x196x3, .i32⟩
  | .local _ .vmem, ⟨16, _⟩ => ⟨S1x196x3, .i32⟩
  | .local _ .vmem, ⟨17, _⟩ => ⟨S1x196x3, .i32⟩
  | _, _ => ⟨S64x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_v0_3 : Ref sig .tc := ⟨.hbm, 5, rfl⟩
abbrev main_call0_v0_4 : Ref sig .tc := ⟨.hbm, 6, rfl⟩
abbrev main_v0_5 : Ref sig .tc := ⟨.hbm, 7, rfl⟩
abbrev main_v0_6 : Ref sig .tc := ⟨.hbm, 8, rfl⟩
abbrev main_v0_1 : Ref sig .tc := ⟨.hbm, 9, rfl⟩
abbrev main_v0_2 : Ref sig .tc := ⟨.hbm, 10, rfl⟩
abbrev main_call0_v3 : Ref sig .tc := ⟨.hbm, 11, rfl⟩
abbrev main_call0_c : Ref sig .tc := ⟨.hbm, 12, rfl⟩
abbrev main_call0_v4 : Ref sig .tc := ⟨.hbm, 13, rfl⟩
abbrev main_call0_v5 : Ref sig .tc := ⟨.hbm, 14, rfl⟩
abbrev main_v0_3 : Ref sig .tc := ⟨.hbm, 15, rfl⟩
abbrev main_call0_v7 : Ref sig .tc := ⟨.hbm, 16, rfl⟩
abbrev main_call0_c_0 : Ref sig .tc := ⟨.hbm, 17, rfl⟩
abbrev main_call0_v8 : Ref sig .tc := ⟨.hbm, 18, rfl⟩
abbrev main_call0_v9 : Ref sig .tc := ⟨.hbm, 19, rfl⟩
abbrev main_v0_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x196x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x196x196 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x196 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x196 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x196 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x196 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x196x3 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x196x3 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | _ => none
-- ==== ReferenceIdeal.lean ====
abbrev S64x196x768 : Shape := ⟨3, ![64, 196, 768]⟩
abbrev S_ : Shape := ⟨0, ![]⟩
abbrev S64x196 : Shape := ⟨2, ![64, 196]⟩
abbrev S64x196x1 : Shape := ⟨3, ![64, 196, 1]⟩
abbrev S64x196x196 : Shape := ⟨3, ![64, 196, 196]⟩
abbrev S64 : Shape := ⟨1, ![64]⟩
abbrev S64x1 : Shape := ⟨2, ![64, 1]⟩
abbrev S64x196x3 : Shape := ⟨3, ![64, 196, 3]⟩

abbrev nBuf : Space → Nat
  | .hbm => 121
  | .vmem => 0
  | .smem => 0
  | _ => 0

abbrev bufTy : (tb : Table) → Fin (tcTables nBuf tb) → BufTy
  | .hbm, ⟨0, _⟩ => ⟨S64x196x768, .f32⟩
  | .hbm, ⟨1, _⟩ => ⟨S64x196x768, .f32⟩
  | .hbm, ⟨2, _⟩ => ⟨S64x196x768, .f32⟩
  | .hbm, ⟨3, _⟩ => ⟨S_, .f32⟩
  | .hbm, ⟨4, _⟩ => ⟨S64x196, .f32⟩
  | .hbm, ⟨5, _⟩ => ⟨S64x196x1, .f32⟩
  | .hbm, ⟨6, _⟩ => ⟨S64x196x1, .f32⟩
  | .hbm, ⟨7, _⟩ => ⟨S_, .f32⟩
  | .hbm, ⟨8, _⟩ => ⟨S_, .f32⟩
  | .hbm, ⟨9, _⟩ => ⟨S64x196x1, .f32⟩
  | .hbm, ⟨10, _⟩ => ⟨S64x196x1, .f32⟩
  | .hbm, ⟨11, _⟩ => ⟨S64x196x768, .f32⟩
  | .hbm, ⟨12, _⟩ => ⟨S64x196x768, .f32⟩
  | .hbm, ⟨13, _⟩ => ⟨S64x196x768, .f32⟩
  | .hbm, ⟨14, _⟩ => ⟨S_, .f32⟩
  | .hbm, ⟨15, _⟩ => ⟨S64x196, .f32⟩
  | .hbm, ⟨16, _⟩ => ⟨S64x196x1, .f32⟩
  | .hbm, ⟨17, _⟩ => ⟨S64x196x1, .f32⟩
  | .hbm, ⟨18, _⟩ => ⟨S_, .f32⟩
  | .hbm, ⟨19, _⟩ => ⟨S_, .f32⟩
  | .hbm, ⟨20, _⟩ => ⟨S64x196x1, .f32⟩
  | .hbm, ⟨21, _⟩ => ⟨S64x196x1, .f32⟩
  | .hbm, ⟨22, _⟩ => ⟨S64x196x768, .f32⟩
  | .hbm, ⟨23, _⟩ => ⟨S64x196x768, .f32⟩
  | .hbm, ⟨24, _⟩ => ⟨S64x196x196, .f32⟩
  | .hbm, ⟨25, _⟩ => ⟨S_, .f32⟩
  | .hbm, ⟨26, _⟩ => ⟨S64x196x196, .f32⟩
  | .hbm, ⟨27, _⟩ => ⟨S64x196x196, .f32⟩
  | .hbm, ⟨28, _⟩ => ⟨S64x196x196, .f32⟩
  | .hbm, ⟨29, _⟩ => ⟨S_, .f32⟩
  | .hbm, ⟨30, _⟩ => ⟨S64x196, .f32⟩
  | .hbm, ⟨31, _⟩ => ⟨S64x196x1, .f32⟩
  | .hbm, ⟨32, _⟩ => ⟨S64x196x196, .f32⟩
  | .hbm, ⟨33, _⟩ => ⟨S64x196x196, .f32⟩
  | .hbm, ⟨34, _⟩ => ⟨S64x196x196, .f32⟩
  | .hbm, ⟨35, _⟩ => ⟨S64x196x196, .f32⟩
  | .hbm, ⟨36, _⟩ => ⟨S64x196x196, .f32⟩
  | .hbm, ⟨37, _⟩ => ⟨S_, .f32⟩
  | .hbm, ⟨38, _⟩ => ⟨S64x196, .f32⟩
  | .hbm, ⟨39, _⟩ => ⟨S64x196x196, .f32⟩
  | .hbm, ⟨40, _⟩ => ⟨S_, .f32⟩
  | .hbm, ⟨41, _⟩ => ⟨S64x196x196, .f32⟩
  | .hbm, ⟨42, _⟩ => ⟨S64x196x196, .f32⟩
  | .hbm, ⟨43, _⟩ => ⟨S64x196x196, .f32⟩
  | .hbm, ⟨44, _⟩ => ⟨S_, .f32⟩
  | .hbm, ⟨45, _⟩ => ⟨S64x196, .f32⟩
  | .hbm, ⟨46, _⟩ => ⟨S64x196x1, .f32⟩
  | .hbm, ⟨47, _⟩ => ⟨S64x196x196, .f32⟩
  | .hbm, ⟨48, _⟩ => ⟨S64x196x196, .f32⟩
  | .hbm, ⟨49, _⟩ => ⟨S64x196x196, .f32⟩
  | .hbm, ⟨50, _⟩ => ⟨S64x196x196, .f32⟩
  | .hbm, ⟨51, _⟩ => ⟨S64x196x196, .f32⟩
  | .hbm, ⟨52, _⟩ => ⟨S_, .f32⟩
  | .hbm, ⟨53, _⟩ => ⟨S64x196, .f32⟩
  | .hbm, ⟨54, _⟩ => ⟨S_, .f32⟩
  | .hbm, ⟨55, _⟩ => ⟨S64, .f32⟩
  | .hbm, ⟨56, _⟩ => ⟨S64x1, .f32⟩
  | .hbm, ⟨57, _⟩ => ⟨S_, .f32⟩
  | .hbm, ⟨58, _⟩ => ⟨S64, .f32⟩
  | .hbm, ⟨59, _⟩ => ⟨S64x1, .f32⟩
  | .hbm, ⟨60, _⟩ => ⟨S64x1, .f32⟩
  | .hbm, ⟨61, _⟩ => ⟨S_, .f32⟩
  | .hbm, ⟨62, _⟩ => ⟨S64x1, .f32⟩
  | .hbm, ⟨63, _⟩ => ⟨S64x1, .f32⟩
  | .hbm, ⟨64, _⟩ => ⟨S64x1, .f32⟩
  | .hbm, ⟨65, _⟩ => ⟨S64x196, .f32⟩
  | .hbm, ⟨66, _⟩ => ⟨S64x196, .i1⟩
  | .hbm, ⟨67, _⟩ => ⟨S64x196, .i32⟩
  | .hbm, ⟨68, _⟩ => ⟨S_, .i32⟩
  | .hbm, ⟨69, _⟩ => ⟨S64, .i32⟩
  | .hbm, ⟨70, _⟩ => ⟨S64x1, .i32⟩
  | .hbm, ⟨71, _⟩ => ⟨S64x196, .i32⟩
  | .hbm, ⟨72, _⟩ => ⟨S64x196, .f32⟩
  | .hbm, ⟨73, _⟩ => ⟨S64x196, .i32⟩
  | .hbm, ⟨74, _⟩ => ⟨S64x196, .i32⟩
  | .hbm, ⟨75, _⟩ => ⟨S64x196, .i32⟩
  | .hbm, ⟨76, _⟩ => ⟨S64x196, .i32⟩
  | .hbm, ⟨77, _⟩ => ⟨S_, .i32⟩
  | .hbm, ⟨78, _⟩ => ⟨S64x196, .i32⟩
  | .hbm, ⟨79, _⟩ => ⟨S64x196, .i1⟩
  | .hbm, ⟨80, _⟩ => ⟨S_, .i32⟩
  | .hbm, ⟨81, _⟩ => ⟨S64x1, .i32⟩
  | .hbm, ⟨82, _⟩ => ⟨S64x1, .i1⟩
  | .hbm, ⟨83, _⟩ => ⟨S64x196, .i1⟩
  | .hbm, ⟨84, _⟩ => ⟨S64x196, .i1⟩
  | .hbm, ⟨85, _⟩ => ⟨S_, .f32⟩
  | .hbm, ⟨86, _⟩ => ⟨S64, .f32⟩
  | .hbm, ⟨87, _⟩ => ⟨S64x1, .f32⟩
  | .hbm, ⟨88, _⟩ => ⟨S_, .f32⟩
  | .hbm, ⟨89, _⟩ => ⟨S64, .f32⟩
  | .hbm, ⟨90, _⟩ => ⟨S64x1, .f32⟩
  | .hbm, ⟨91, _⟩ => ⟨S64x1, .f32⟩
  | .hbm, ⟨92, _⟩ => ⟨S_, .f32⟩
  | .hbm, ⟨93, _⟩ => ⟨S64x1, .f32⟩
  | .hbm, ⟨94, _⟩ => ⟨S64x1, .f32⟩
  | .hbm, ⟨95, _⟩ => ⟨S64x1, .f32⟩
  | .hbm, ⟨96, _⟩ => ⟨S64x196, .f32⟩
  | .hbm, ⟨97, _⟩ => ⟨S64x196, .i1⟩
  | .hbm, ⟨98, _⟩ => ⟨S64x196, .i32⟩
  | .hbm, ⟨99, _⟩ => ⟨S_, .i32⟩
  | .hbm, ⟨100, _⟩ => ⟨S64, .i32⟩
  | .hbm, ⟨101, _⟩ => ⟨S64x1, .i32⟩
  | .hbm, ⟨102, _⟩ => ⟨S64x196, .i32⟩
  | .hbm, ⟨103, _⟩ => ⟨S64x196, .f32⟩
  | .hbm, ⟨104, _⟩ => ⟨S64x196, .i32⟩
  | .hbm, ⟨105, _⟩ => ⟨S64x196, .i32⟩
  | .hbm, ⟨106, _⟩ => ⟨S64x196, .i32⟩
  | .hbm, ⟨107, _⟩ => ⟨S64x196, .i32⟩
  | .hbm, ⟨108, _⟩ => ⟨S_, .i32⟩
  | .hbm, ⟨109, _⟩ => ⟨S64x196, .i32⟩
  | .hbm, ⟨110, _⟩ => ⟨S64x196, .i1⟩
  | .hbm, ⟨111, _⟩ => ⟨S_, .i32⟩
  | .hbm, ⟨112, _⟩ => ⟨S64x1, .i32⟩
  | .hbm, ⟨113, _⟩ => ⟨S64x1, .i1⟩
  | .hbm, ⟨114, _⟩ => ⟨S64x196, .i1⟩
  | .hbm, ⟨115, _⟩ => ⟨S64x196, .i1⟩
  | .hbm, ⟨116, _⟩ => ⟨S64x196x3, .f32⟩
  | .hbm, ⟨117, _⟩ => ⟨S64x196x3, .i32⟩
  | .hbm, ⟨118, _⟩ => ⟨S64x196x196, .f32⟩
  | .hbm, ⟨119, _⟩ => ⟨S64x196x3, .f32⟩
  | .hbm, ⟨120, _⟩ => ⟨S64x196x3, .i32⟩
  | _, _ => ⟨S64x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call2_v0 : Ref sig .tc := ⟨.hbm, 13, rfl⟩
abbrev main_call2_cst : Ref sig .tc := ⟨.hbm, 14, rfl⟩
abbrev main_call2_v1 : Ref sig .tc := ⟨.hbm, 15, rfl⟩
abbrev main_call2_v2 : Ref sig .tc := ⟨.hbm, 16, rfl⟩
abbrev main_v4 : Ref sig .tc := ⟨.hbm, 17, rfl⟩
abbrev main_cst_0 : Ref sig .tc := ⟨.hbm, 18, rfl⟩
abbrev main_call3_v0 : Ref sig .tc := ⟨.hbm, 19, rfl⟩
abbrev main_call3_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c : Ref sig .tc := ⟨.hbm, 68, rfl⟩
abbrev main_v43 : Ref sig .tc := ⟨.hbm, 69, rfl⟩
abbrev main_v44 : Ref sig .tc := ⟨.hbm, 70, rfl⟩
abbrev main_call4_v0 : Ref sig .tc := ⟨.hbm, 71, rfl⟩
abbrev main_call4_v1_0 : Ref sig .tc := ⟨.hbm, 72, rfl⟩
abbrev main_v45 : Ref sig .tc := ⟨.hbm, 73, rfl⟩
abbrev main_call5_v0 : Ref sig .tc := ⟨.hbm, 74, rfl⟩
abbrev main_call5_v1_0 : Ref sig .tc := ⟨.hbm, 75, rfl⟩
abbrev main_v46 : Ref sig .tc := ⟨.hbm, 76, rfl⟩
abbrev main_c_10 : Ref sig .tc := ⟨.hbm, 77, rfl⟩
abbrev main_v47 : Ref sig .tc := ⟨.hbm, 78, rfl⟩
abbrev main_v48 : Ref sig .tc := ⟨.hbm, 79, rfl⟩
abbrev main_c_11 : Ref sig .tc := ⟨.hbm, 80, rfl⟩
abbrev main_v49 : Ref sig .tc := ⟨.hbm, 81, rfl⟩
abbrev main_v50 : Ref sig .tc := ⟨.hbm, 82, rfl⟩
abbrev main_call6_v0 : Ref sig .tc := ⟨.hbm, 83, rfl⟩
abbrev main_v51 : Ref sig .tc := ⟨.hbm, 84, rfl⟩
abbrev main_cst_12 : Ref sig .tc := ⟨.hbm, 85, rfl⟩
abbrev main_v52 : Ref sig .tc := ⟨.hbm, 86, rfl⟩
abbrev main_v53 : Ref sig .tc := ⟨.hbm, 87, rfl⟩
abbrev main_cst_13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_15 : Ref sig .tc := ⟨.hbm, 99, rfl⟩
abbrev main_v63 : Ref sig .tc := ⟨.hbm, 100, rfl⟩
abbrev main_v64 : Ref sig .tc := ⟨.hbm, 101, rfl⟩
abbrev main_call7_v0 : Ref sig .tc := ⟨.hbm, 102, rfl⟩
abbrev main_call7_v1_0 : Ref sig .tc := ⟨.hbm, 103, rfl⟩
abbrev main_v65 : Ref sig .tc := ⟨.hbm, 104, rfl⟩
abbrev main_call8_v0 : Ref sig .tc := ⟨.hbm, 105, rfl⟩
abbrev main_call8_v1_0 : Ref sig .tc := ⟨.hbm, 106, rfl⟩
abbrev main_v66 : Ref sig .tc := ⟨.hbm, 107, rfl⟩
abbrev main_c_16 : Ref sig .tc := ⟨.hbm, 108, rfl⟩
abbrev main_v67 : Ref sig .tc := ⟨.hbm, 109, rfl⟩
abbrev main_v68 : Ref sig .tc := ⟨.hbm, 110, rfl⟩
abbrev main_c_17 : Ref sig .tc := ⟨.hbm, 111, rfl⟩
abbrev main_v69 : Ref sig .tc := ⟨.hbm, 112, rfl⟩
abbrev main_v70 : Ref sig .tc := ⟨.hbm, 113, rfl⟩
abbrev main_call9_v0 : Ref sig .tc := ⟨.hbm, 114, rfl⟩
abbrev main_v71 : Ref sig .tc := ⟨.hbm, 115, rfl⟩
abbrev main_values : Ref sig .tc := ⟨.hbm, 116, rfl⟩
abbrev main_indices : Ref sig .tc := ⟨.hbm, 117, rfl⟩
abbrev main_v72 : Ref sig .tc := ⟨.hbm, 118, rfl⟩
abbrev main_values_18 : Ref sig .tc := ⟨.hbm, 119, rfl⟩
abbrev main_indices_19 : Ref sig .tc := ⟨.hbm, 120, rfl⟩

abbrev nD : Nat := 1
abbrev τ : Topo := Topo.v7x

variable {F : FTy → Type} [FloatOps F]
-- ==== Proof.Ranks.lean ====
/- Positions, ranks and the three greatest: what a stable sort along one line says about its entries.
   Nothing here mentions a program. -/
module

public import Idealize.ShloMosaic.Lib.SortPrefix
public import Mathlib.Data.EReal.Basic

@[expose] public section

noncomputable section

namespace Cert.Ranks

open Idealize.ShloMosaic

/-- Two comparators that agree whenever the first position asked about is the later one sort an ascending list alike:
    the stable sort never asks the other question. -/
theorem stableSort_of_later {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The same for the positions a sort reads from. -/
theorem sortedFrom_of_later {n : ℕ} (R R' : Fin n → Fin n → Bool) (h : ∀ a b, a < b → R b a = R' b a) :
    sortedFrom R = sortedFrom R' := by
  funext k
  unfold sortedFrom
  have e : sortPositions n R = sortPositions n R' :=
    stableSort_of_later R R' _ (List.pairwise_lt_finRange n) h
  rw [List.get_of_eq e]
  rfl

/-- Smaller key first, then the earlier position. -/
abbrev keyBefore {n : ℕ} {κ : Type} [LinearOrder κ] (f : Fin n → κ) (k k' : Fin n) : Bool :=
  decide (f k < f k') || (decide (f k = f k') && decide (k < k'))

/-- Ordering positions by key, ties by the earlier position, is a strict total order. -/
theorem keyBefore_total {n : ℕ} {κ : Type} [LinearOrder κ] (f : Fin n → κ) : StrictTotalBefore (keyBefore f) :=
  StrictTotalBefore.of_key_then_position (fun a b : κ => decide (a < b)) f (fun a => by simp)
    (fun a b c => by simpa using lt_trans) (fun a b => by simpa using lt_trichotomy a b)

/-- A stable sort by the key alone is the sort by the key and then the position. -/
theorem sortedFrom_key {n : ℕ} {κ : Type} [LinearOrder κ] (f : Fin n → κ) :
    sortedFrom (fun k k' => decide (f k < f k')) = sortedFrom (keyBefore f) :=
  sortedFrom_of_later _ _ fun a b hab => by simp [keyBefore, not_lt.mpr hab.le]

/-- Under a strict total order, exactly `k` positions come before the one sorted to place `k`. -/
theorem card_before_sortedFrom {n : ℕ} {B : Fin n → Fin n → Bool} (hB : StrictTotalBefore B) (k : Fin n) :
    (Finset.univ.filter fun j => B j (sortedFrom B k) = true).card = k.val := by
  have hs : ∀ a b : Fin n, B (sortedFrom B a) (sortedFrom B b) = true ↔ a < b := by
    intro a b
    constructor
    · intro h
      by_contra hn
      rcases (not_lt.mp hn).lt_or_eq with hlt | heq
      · have := sortedFrom_noInversion B B (fun a b h => hB.asymm a b h) (fun _ _ h => h) hB.negTrans b a hlt
        rw [h] at this; exact absurd this (by decide)
      · subst heq; rw [hB.irrefl] at h; exact absurd h (by decide)
    · intro h
      rcases hB.total _ _ (fun e => h.ne (sortedFrom_injective B e)) with h' | h'
      · exact h'
      · have := sortedFrom_noInversion B B (fun a b h => hB.asymm a b h) (fun _ _ h => h) hB.negTrans a b h
        rw [h'] at this; exact absurd this (by decide)
  have himg : (Finset.univ.filter fun j => B j (sortedFrom B k) = true)
      = (Finset.Iio k).image (sortedFrom B) := by
    ext j
    obtain ⟨a, rfl⟩ := sortedFrom_surjective B j
    simp only [Finset.mem_filter, Finset.mem_univ, true_and, Finset.mem_image, Finset.mem_Iio, hs]
    exact ⟨fun h => ⟨a, h, rfl⟩, fun ⟨b, hb, e⟩ => sortedFrom_injective B e ▸ hb⟩
  rw [himg, Finset.card_image_of_injective _ (sortedFrom_injective B), Fin.card_Iio]

/-- Sorting the positions of a sort gives each position's RANK: the number of positions before it. -/
theorem rank_eq_card {n : ℕ} {B : Fin n → Fin n → Bool} (hB : StrictTotalBefore B) (i : Fin n) :
    (sortedFrom (fun k k' => decide (sortedFrom B k < sortedFrom B k')) i).val
      = (Finset.univ.filter fun j => B j i = true).card := by
  have e := sortedFrom_key (sortedFrom B)
  rw [e]
  set τ := sortedFrom (keyBefore (sortedFrom B)) with hτ
  have h1 := card_before_sortedFrom (keyBefore_total (sortedFrom B)) i
  have h2 : (Finset.univ.filter fun j => keyBefore (sortedFrom B) j (τ i) = true)
      = (Finset.univ.filter fun j => sortedFrom B j < sortedFrom B (τ i)) := by
    refine Finset.filter_congr fun j _ => ?_
    simp only [keyBefore, Bool.or_eq_true, Bool.and_eq_true, decide_eq_true_eq, or_iff_left_iff_imp]
    rintro ⟨h, h'⟩
    rw [sortedFrom_injective B h] at h'
    exact absurd h' (lt_irrefl _)
  have h3 : (Finset.univ.filter fun j => sortedFrom B j < sortedFrom B (τ i)).card = (sortedFrom B (τ i)).val := by
    have : (Finset.univ.filter fun j => sortedFrom B j < sortedFrom B (τ i)).image (sortedFrom B)
        = Finset.Iio (sortedFrom B (τ i)) := by
      ext v
      obtain ⟨a, rfl⟩ := sortedFrom_surjective B v
      simp only [Finset.mem_image, Finset.mem_filter, Finset.mem_univ, true_and, Finset.mem_Iio]
      exact ⟨fun ⟨b, hb, e⟩ => e ▸ hb, fun h => ⟨a, h, rfl⟩⟩
    rw [← Finset.card_image_of_injective _ (sortedFrom_injective B), this, Fin.card_Iio]
  rw [← hτ, h2, h3] at h1
  have hi : sortedFrom B (τ i) = i := Fin.ext h1
  have h4 := card_before_sortedFrom hB (τ i)
  rw [hi] at h4
  exact h4.symm

/-! ### The three greatest -/

/-- `p` is the first position of the line's greatest entry. -/
structure IsPick {n : ℕ} (f : Fin n → EReal) (p : Fin n) : Prop where
  le : ∀ j, f j ≤ f p
  first : ∀ j, f j = f p → p ≤ j

/-- The line with one entry struck out. -/
abbrev strike {n : ℕ} (f : Fin n → EReal) (p : Fin n) : Fin n → EReal := fun j => if j = p then ⊥ else f j

/-- A line with at least one entry has a position holding its greatest value, the first such. -/
theorem exists_isPick {n : ℕ} [NeZero n] (f : Fin n → EReal) : ∃ p, IsPick f p := by
  obtain ⟨q, -, hq⟩ := Finset.exists_max_image Finset.univ f ⟨0, Finset.mem_univ _⟩
  have hne : (Finset.univ.filter fun j => f j = f q).Nonempty := ⟨q, by simp⟩
  refine ⟨(Finset.univ.filter fun j => f j = f q).min' hne, ?_, ?_⟩
  · have := (Finset.mem_filter.mp (Finset.min'_mem _ hne)).2
    intro j; rw [this]; exact hq j (Finset.mem_univ _)
  · have := (Finset.mem_filter.mp (Finset.min'_mem _ hne)).2
    intro j hj
    exact Finset.min'_le _ _ (by simp [hj, this])

/-- The first position of the greatest entry. -/
def pick {n : ℕ} [NeZero n] (f : Fin n → EReal) : Fin n := (exists_isPick f).choose

/-- The chosen position holds the greatest value and is the first to do so. -/
theorem pick_spec {n : ℕ} [NeZero n] (f : Fin n → EReal) : IsPick f (pick f) := (exists_isPick f).choose_spec

/-- The positions of the three greatest entries, by three rounds of picking and striking out. -/
def top3 {n : ℕ} [NeZero n] (f : Fin n → EReal) : Fin 3 → Fin n :=
  ![pick f, pick (strike f (pick f)), pick (strike (strike f (pick f)) (pick (strike f (pick f))))]

/-- Greatest entry first, then the earlier position. -/
abbrev topBefore {n : ℕ} (f : Fin n → EReal) (k k' : Fin n) : Bool :=
  decide (f k' < f k) || (decide (f k = f k') && decide (k < k'))

/-- Ordering positions by greater value, ties by the earlier position, is a strict total order. -/
theorem topBefore_total {n : ℕ} (f : Fin n → EReal) : StrictTotalBefore (topBefore f) :=
  StrictTotalBefore.of_key_then_position (fun a b : EReal => decide (b < a)) f (fun a => by simp)
    (fun a b c => by simpa using fun h h' => lt_trans h' h)
    (fun a b => by simpa [eq_comm] using lt_trichotomy b a)

/-- On a line whose entries are all above `-∞`, the three rounds find the first three positions of the stable
    descending sort. -/
theorem sortedFrom_top3 {n : ℕ} [NeZero n] (hn : 3 ≤ n) (f : Fin n → EReal) (hf : ∀ j, f j ≠ ⊥) (r : Fin 3) :
    sortedFrom (fun k k' => decide (f k' < f k)) (r.castLE hn) = top3 f r := by
  have e : sortedFrom (fun k k' => decide (f k' < f k)) = sortedFrom (topBefore f) :=
    sortedFrom_of_later _ _ fun a b hab => by simp [topBefore, not_lt.mpr hab.le]
  rw [e]
  have h0 := pick_spec f
  have h1 := pick_spec (strike f (pick f))
  have h2 := pick_spec (strike (strike f (pick f)) (pick (strike f (pick f))))
  unfold top3
  generalize pick (strike (strike f (pick f)) (pick (strike f (pick f)))) = c at *
  generalize pick (strike f (pick f)) = b at *
  generalize pick f = a at *
  -- a fourth position never matters; there is always one left to pick
  have hpos : ∀ j, ⊥ < f j := fun j => bot_lt_iff_ne_bot.mpr (hf j)
  have hba : b ≠ a := by
    rintro rfl
    obtain ⟨j, hj⟩ : ∃ j : Fin n, j ≠ b := by
      by_cases h : b.val = 0
      · exact ⟨⟨1, by omega⟩, fun e => by have := congrArg Fin.val e; simp at this; omega⟩
      · exact ⟨⟨0, by omega⟩, fun e => h (congrArg Fin.val e).symm⟩
    have := h1.le j
    simp only [strike, if_neg hj, if_pos] at this
    exact absurd this (not_le.mpr (hpos j))
  have hc : c ≠ a ∧ c ≠ b := by
    by_contra hcon
    have hcon' : c = b ∨ c = a := by
      by_contra h'; push Not at h'; exact hcon ⟨h'.2, h'.1⟩
    obtain ⟨j, hja, hjb⟩ : ∃ j : Fin n, j ≠ a ∧ j ≠ b := by
      have : ({a, b} : Finset (Fin n)) ≠ Finset.univ := by
        intro h
        have h' := congrArg Finset.card h
        rw [Finset.card_univ, Fintype.card_fin] at h'
        have := Finset.card_le_two (a := a) (b := b)
        omega
      by_contra hno
      push Not at hno
      refine this (Finset.eq_univ_iff_forall.mpr fun j => ?_)
      rw [Finset.mem_insert, Finset.mem_singleton]
      by_cases hj : j = a
      · exact Or.inl hj
      · exact Or.inr (hno j hj)
    have := h2.le j
    have hz : strike (strike f a) b c = ⊥ := by
      simp only [strike]
      rcases hcon' with h | h <;> simp [h]
    rw [hz] at this
    simp only [strike, if_neg hja, if_neg hjb] at this
    exact absurd this (not_le.mpr (hpos j))
  have key0 : ∀ p, p ≠ a → topBefore f p a = false := fun p hp => by
    simp only [topBefore, Bool.or_eq_false_iff, decide_eq_false_iff_not, not_lt, Bool.and_eq_false_imp, decide_eq_true_eq]
    exact ⟨h0.le p, fun h => h0.first p h⟩
  have key1 : ∀ p, p ≠ a → topBefore f p b = false := fun p hp => by
    have l := h1.le p; have s := h1.first p
    simp only [strike, if_neg hp, if_neg hba] at l s
    simp only [topBefore, Bool.or_eq_false_iff, decide_eq_false_iff_not, not_lt, Bool.and_eq_false_imp, decide_eq_true_eq]
    exact ⟨l, s⟩
  have key2 : ∀ p, p ≠ a → p ≠ b → topBefore f p c = false := fun p hp hp' => by
    have l := h2.le p; have s := h2.first p
    simp only [strike, if_neg hp, if_neg hp', if_neg hc.1, if_neg hc.2] at l s
    simp only [topBefore, Bool.or_eq_false_iff, decide_eq_false_iff_not, not_lt, Bool.and_eq_false_imp, decide_eq_true_eq]
    exact ⟨l, s⟩
  refine StrictTotalBefore.sortedFrom_eq_of_prefix (topBefore_total f) hn ![a, b, c] ?_ ?_ ?_ r
  · intro i j hij
    fin_cases i <;> fin_cases j <;> simp_all
  · intro i j hij
    fin_cases i <;> fin_cases j <;> first | exact absurd hij (by decide) | skip
    · exact key0 b hba
    · exact key0 c hc.1
    · exact key1 c hc.1
  · intro i p hp
    have pa : p ≠ a := (hp 0).symm
    have pb : p ≠ b := (hp 1).symm
    fin_cases i
    · exact key0 p pa
    · exact key1 p pa
    · exact key2 p pa pb

end Cert.Ranks

end
-- ==== Proof.Model.lean ====
/- The four quantities both programs compute for one image, as plain functions of a line or of two token tables. -/
module

public import proofs.«01_k».proof.Proof.Ranks
public import Idealize.ShloMosaic.PureOps.Ideal

@[expose] public section

noncomputable section

namespace Cert.Model

open Idealize.ShloMosaic Cert.Ranks

/-- The length of one token, held away from zero. -/
def len (x : Fin 768 → EReal) : EReal :=
  max (Ideal.sqrt (∑ d, x d * x d)) (Ideal.ofBits .f32 0x2B8CBCCC#32)

/-- The affinity of one query token with one reference token: the product of the two scaled to unit length. -/
def aff (x y : Fin 768 → EReal) : EReal :=
  ∑ d, Ideal.div (x d) (len x) * Ideal.div (y d) (len y)

/-- The share of entry `k` in a line of affinities, after the scaled exponential. -/
def prob (a : Fin 196 → EReal) (k : Fin 196) : EReal :=
  Ideal.div (Ideal.exp (a k * Ideal.ofBits .f32 0x40A00000#32))
    (∑ l, Ideal.exp (a l * Ideal.ofBits .f32 0x40A00000#32))

/-- The entropy of a line of affinities. -/
def ent (a : Fin 196 → EReal) : EReal := ∑ k, -(prob a k) * Ideal.log (prob a k)

/-- The entropy below which a token is kept: a fifth of the way from the least to the greatest. -/
def bar (e : Fin 196 → EReal) : EReal :=
  Finset.univ.fold min ⊤ e
    + Ideal.ofBits .f32 0x3E4CCCCD#32 * (Finset.univ.fold max ⊥ e - Finset.univ.fold min ⊤ e)

/-- How many tokens lie below the bar. -/
def below (e : Fin 196 → EReal) : ℕ := (Finset.univ.filter fun j => e j < bar e).card

/-- How many tokens come before token `i`: smaller entropy first, then the earlier position. -/
def rank (e : Fin 196 → EReal) (i : Fin 196) : ℕ := (Finset.univ.filter fun j => keyBefore e j i = true).card

/-- The mask: the tokens below the bar, or, when there are fewer than twenty of them, the first twenty by rank. -/
def mask (e : Fin 196 → EReal) (i : Fin 196) : Bool :=
  if below e < 20 then decide (rank e i < 20) else decide (e i < bar e)

end Cert.Model

end
-- ==== Proof.Scalars.lean ====
/- Scalar facts both programs need: the constants, the two ways of counting, the least index of a greatest entry as a
   word, the logarithm read in two bases, and the affinities being real numbers whatever the tokens are. -/
module

public import proofs.«01_k».proof.Proof.Model
public import Idealize.ShloMosaic.Lib.IndicatorCount
public import Idealize.ShloMosaic.Lib.WordCmp
public import Idealize.ShloMosaic.Lib.Pointwise

@[expose] public section

noncomputable section

namespace Cert.Scalars

open Idealize.ShloMosaic Idealize.ShloMosaic.WordCmp Cert.Ranks

/-! ### Constants -/

/-- The word of minus infinity stands for `⊥`. -/
theorem ofBits_ninf : Ideal.ofBits .f32 0xFF800000#32 = ⊥ := by simp [Ideal.ofBits, Ideal.ieee]
/-- The word of plus infinity stands for `⊤`. -/
theorem ofBits_pinf : Ideal.ofBits .f32 0x7F800000#32 = ⊤ := by simp [Ideal.ofBits, Ideal.ieee]
/-- The word of twenty stands for the real number 20. -/
theorem ofBits_twenty : Ideal.ofBits .f32 0x41A00000#32 = ((20 : ℝ) : EReal) := by
  simp [Ideal.ofBits, Ideal.ieee, -EReal.coe_mul]; norm_num

/-- The floor of a token's length is a positive real. -/
theorem ofBits_floor : ∃ c : ℝ, 0 < c ∧ Ideal.ofBits .f32 0x2B8CBCCC#32 = (c : EReal) := by
  refine ⟨_, ?_, by simp [Ideal.ofBits, Ideal.ieee, -EReal.coe_mul]; rfl⟩
  positivity

/-! ### The logarithm through base two -/

/-- Dividing by `ln 2` and multiplying by it again gives the value back, infinities included. -/
theorem mul_ln2 (x : EReal) : x * (((Real.log 2)⁻¹ : ℝ) : EReal) * ((Real.log 2 : ℝ) : EReal) = x := by
  rw [mul_assoc, ← EReal.coe_mul, inv_mul_cancel₀ (Real.log_pos (by norm_num)).ne', EReal.coe_one, mul_one]

/-! ### Counting -/

/-- An indicator as a float is 1 or 0. -/
theorem sitofp_ofBool (b : Bool) :
    FloatOps.sitofp (F := Ideal) .f32 ((BitVec.ofBool b).setWidth 32) = (((if b then 1 else 0 : ℕ) : ℝ) : EReal) := by
  show ((((BitVec.ofBool b).setWidth 32).toInt : ℝ) : EReal) = _
  cases b <;> simp

/-- A float sum of indicators is the number of ones. -/
theorem sum_indicator {ι : Type} [Fintype ι] (p : ι → Bool) :
    (∑ i, FloatOps.sitofp (F := Ideal) .f32 ((BitVec.ofBool (p i)).setWidth 32) : EReal)
      = (((Finset.univ.filter fun i => p i = true).card : ℝ) : EReal) := by
  simp only [sitofp_ofBool]
  rw [Finset.card_filter]
  push_cast
  have : ∀ S : Finset ι, (∑ i ∈ S, (((if p i = true then (1 : ℝ) else 0 : ℝ)) : EReal))
      = ((∑ i ∈ S, (if p i = true then (1 : ℝ) else 0) : ℝ) : EReal) := by
    classical
    intro S
    induction S using Finset.induction_on with
    | empty => simp
    | insert a S ha ih => rw [Finset.sum_insert ha, Finset.sum_insert ha, ih, EReal.coe_add]
  exact this _

/-- A count taken as a real is below twenty exactly when the count is. -/
theorem card_lt_twenty (n : ℕ) : ((n : ℝ) : EReal) < ((20 : ℝ) : EReal) ↔ n < 20 := by
  rw [EReal.coe_lt_coe_iff]; exact_mod_cast Iff.rfl

/-- A word that counts at most 196 things is below twenty exactly when the count is. -/
theorem slt_twenty {n : ℕ} (h : n ≤ 196) :
    IntOp.cmpi .slt (BitVec.ofNat 32 n) 20#32 = BitVec.ofBool (decide (n < 20)) :=
  cmpi_slt_ofNat (w := 32) (a := n) (b := 20) (by norm_num; omega) (by norm_num)

/-! ### The least word -/

/-- The signed minimum of two words, as an integer, is the minimum of the two integers. -/
theorem minsi_toInt {w : ℕ} (x y : BitVec w) : (IntOp.minsi x y).toInt = min x.toInt y.toInt := by
  unfold IntOp.minsi
  rw [BitVec.slt_eq_decide]
  by_cases h : x.toInt < y.toInt
  · simp [h, h.le]
  · simp [h, not_lt.mp h]

/-- The signed minimum over a finite set of words, as an integer, is the minimum of the integers. -/
theorem fold_minsi_toInt {ι : Type} {w : ℕ} (b : BitVec w) (g : ι → BitVec w) (S : Finset ι) :
    (S.fold IntOp.minsi b g).toInt = S.fold min b.toInt fun i => (g i).toInt := by
  classical
  induction S using Finset.induction_on with
  | empty => rfl
  | insert a S ha ih => rw [Finset.fold_insert ha, Finset.fold_insert ha, minsi_toInt, ih]

/-- A word that is one of the entries and below all of them and the start is their minimum. -/
theorem fold_minsi_eq {ι : Type} [Fintype ι] {w : ℕ} (b : BitVec w) (g : ι → BitVec w) (p : ι)
    (hb : (g p).toInt ≤ b.toInt) (h : ∀ i, (g p).toInt ≤ (g i).toInt) :
    Finset.univ.fold IntOp.minsi b g = g p := by
  apply BitVec.eq_of_toInt_eq
  rw [fold_minsi_toInt]
  apply le_antisymm
  · exact (Finset.fold_min_le _).mpr (Or.inr ⟨p, Finset.mem_univ _, le_rfl⟩)
  · exact (Finset.le_fold_min _).mpr ⟨hb, fun i _ => h i⟩

/-- The maximum of a family is its value where no other is greater. -/
theorem fold_max_bot {ι : Type} [Fintype ι] (f : ι → EReal) (p : ι) (h : ∀ j, f j ≤ f p) :
    Finset.univ.fold max ⊥ f = f p := by
  apply le_antisymm
  · exact (Finset.fold_max_le _).mpr ⟨bot_le, fun i _ => h i⟩
  · exact (Finset.le_fold_max _).mpr (Or.inr ⟨p, Finset.mem_univ _, le_rfl⟩)

/-- A position below 196, written as a word, reads back as itself. -/
theorem toInt_pos (k : Fin 196) : (BitVec.ofNat 32 (k : ℕ)).toInt = (k : ℕ) :=
  toInt_ofNat_of_lt (w := 32) (a := k) (by have := k.isLt; norm_num; omega)

/-- The least index among the entries equal to the greatest is the first position of the greatest entry. -/
theorem fold_first (f : Fin 196 → EReal) :
    Finset.univ.fold IntOp.minsi 2147483647#32
        (fun k : Fin 196 => if f k = Finset.univ.fold max ⊥ (fun k => f k) then BitVec.ofNat 32 (k : ℕ) else 1073741824#32)
      = BitVec.ofNat 32 (pick f : ℕ) := by
  have hp := pick_spec f
  have hm := fold_max_bot f (pick f) hp.le
  rw [fold_minsi_eq _ _ (pick f)]
  · exact if_pos hm.symm
  · rw [if_pos hm.symm, toInt_pos, show (2147483647#32 : BitVec 32).toInt = 2147483647 from by decide]
    have := (pick f).isLt; omega
  · intro i
    rw [if_pos hm.symm, toInt_pos]
    by_cases h : f i = Finset.univ.fold max ⊥ (fun k => f k)
    · rw [if_pos h, toInt_pos]
      have := hp.first i (h.trans hm)
      exact_mod_cast this
    · rw [if_neg h, show (1073741824#32 : BitVec 32).toInt = 1073741824 from by decide]
      have := (pick f).isLt; omega

/-- Striking an entry out by comparing position words. -/
theorem select_strike (k p : Fin 196) (v : EReal) :
    (Scalar.select (IntOp.cmpi .eq (BitVec.ofNat 32 (k : ℕ)) (BitVec.ofNat 32 (p : ℕ))) (⊥ : EReal) v)
      = if k = p then ⊥ else v := by
  rw [cmpi_eq_ofNat (w := 32) (by have := k.isLt; norm_num; omega) (by have := p.isLt; norm_num; omega)]
  by_cases h : k = p
  · subst h; simp [Scalar.select]
  · have h' : (k : ℕ) ≠ (p : ℕ) := fun e => h (Fin.ext e)
    simp [Scalar.select, h, h']

/-! ### Affinities are real -/

/-- A square is not negative, the infinities included. -/
theorem mul_self_nonneg (x : EReal) : 0 ≤ x * x := by
  induction x with
  | bot => simp
  | top => simp
  | coe r => rw [← EReal.coe_mul]; exact_mod_cast _root_.mul_self_nonneg r

/-- A coordinate over its token's length is a real number: an infinite coordinate makes the length infinite, and the
    quotient by infinity is zero. -/
theorem unit_real (x : Fin 768 → EReal) (d : Fin 768) : ∃ r : ℝ, Ideal.div (x d) (Model.len x) = (r : EReal) := by
  obtain ⟨c, hc, ec⟩ := ofBits_floor
  unfold Model.len
  rw [ec]
  set s := ∑ d, x d * x d with hs
  have hnn : 0 ≤ s := Finset.sum_nonneg fun d _ => mul_self_nonneg (x d)
  have hle : x d * x d ≤ s := Finset.single_le_sum (f := fun d => x d * x d) (fun d _ => mul_self_nonneg (x d)) (Finset.mem_univ d)
  clear_value s
  induction s with
  | bot => exact absurd hnn (by simp)
  | top =>
    refine ⟨0, ?_⟩
    have : max (Ideal.sqrt ⊤) (c : EReal) = ⊤ := by simp
    rw [this, Ideal.div, if_neg (by simp)]
    simp
  | coe s =>
    have hs0 : ¬ s < 0 := not_lt.mpr (by exact_mod_cast hnn)
    rw [Ideal.sqrt_coe, if_neg hs0, ← EReal.coe_strictMono.monotone.map_max]
    have hpos : 0 < max (Real.sqrt s) c := lt_max_of_lt_right hc
    rw [Ideal.div_coe hpos.ne']
    generalize x d = v at hle
    induction v with
    | bot => exact absurd hle (by simp)
    | top => exact absurd hle (by simp)
    | coe v => exact ⟨v * (1 / max (Real.sqrt s) c), by rw [EReal.coe_mul]⟩

/-- No affinity is `-∞`. -/
theorem aff_ne_bot (x y : Fin 768 → EReal) : Model.aff x y ≠ ⊥ := by
  choose f hf using unit_real x
  choose g hg using unit_real y
  unfold Model.aff
  simp only [hf, hg, ← EReal.coe_mul]
  have : ∀ S : Finset (Fin 768), (∑ d ∈ S, ((f d * g d : ℝ) : EReal)) = ((∑ d ∈ S, f d * g d : ℝ) : EReal) := by
    intro S
    induction S using Finset.induction_on with
    | empty => simp
    | insert a S ha ih => rw [Finset.sum_insert ha, Finset.sum_insert ha, ih, EReal.coe_add]
  rw [this]
  exact EReal.coe_ne_bot _

/-! ### A sum over 768 in three runs of 256 -/

/-- A sum over 768 terms is the sum of its three runs of 256. -/
theorem sum_three (f : Fin 768 → EReal) :
    ∑ d, f d = ∑ k : Fin 256, f ⟨k, by omega⟩ + ∑ k : Fin 256, f ⟨256 + k, by omega⟩ + ∑ k : Fin 256, f ⟨512 + k, by omega⟩ := by
  rw [Fin.sum_univ_tiles 3 256 rfl f, Fin.sum_univ_three]
  simp

end Cert.Scalars

end
-- ==== Proof.Payloads.lean ====
/- What the kernel's body stores for one image, read at an index: the plain quantities of Model. -/
module

public import proofs.«01_k».proof.Proof.Scalars
public import proofs.«01_k».proof.Proof.Gen.KernelIdeal.Skeleton
public import Idealize.ShloMosaic.Lib.Pointwise

@[expose] public section

set_option maxRecDepth 16384

noncomputable section

namespace Cert.KernelIdeal.Image

open Idealize.ShloMosaic Idealize.ShloMosaic.TcCoe Idealize.SL.Sem
open Cert.KernelIdeal Cert.KernelIdeal.Gen Cert.Ranks Cert.Scalars

/-- The constant named `inv_ln2` is the inverse of the natural logarithm of two. -/
theorem inv_ln2 : Named.named (F := Ideal) κ "inv_ln2" (φ := .f32) 0x3FB8AA3B#32 = (((Real.log 2)⁻¹ : ℝ) : EReal) :=
  IdealRules.named_const.ideal_named_scalar _ _ _ _ rfl

/-- The constant named `ln2` is the natural logarithm of two. -/
theorem ln2 : Named.named (F := Ideal) κ "ln2" (φ := .f32) 0x3F317218#32 = ((Real.log 2 : ℝ) : EReal) :=
  IdealRules.named_const.ideal_named_scalar _ _ _ _ rfl

/-- The affinity matrix of the image's tokens. -/
theorem aff_at (x y : FVec Ideal S1x196x768 .f32) (i j : Fin 196) :
    k0_pay2 (F := Ideal) x y (ix2 i j) = Model.aff (fun d => x (ix3 0 i d)) (fun d => y (ix3 0 j d)) := by
  pointwise [k0_pay2]
  unfold Model.aff Model.len
  rw [sum_three (fun d => x (ix3 0 i d) * x (ix3 0 i d)), sum_three (fun d => y (ix3 0 j d) * y (ix3 0 j d))]

/-- The entropy of a row of the matrix. -/
theorem entq_at (a : FVec Ideal S196x196 .f32) (i : Fin 196) :
    k0_pay4 (F := Ideal) a (ix2 0 i) = Model.ent (fun k => a (ix2 i k)) := by
  pointwise [k0_pay4]
  unfold Model.ent Model.prob
  refine Finset.sum_congr rfl fun k _ => ?_
  rw [zero_sub]
  exact congrArg _ (by rw [inv_ln2, ln2]; exact mul_ln2 _)

/-- The entropy of a column of the matrix. -/
theorem entr_at (a : FVec Ideal S196x196 .f32) (i : Fin 196) :
    k0_pay5 (F := Ideal) a (ix2 0 i) = Model.ent (fun k => a (ix2 k i)) := by
  pointwise [k0_pay5]
  unfold Model.ent Model.prob
  refine Finset.sum_congr rfl fun k _ => ?_
  rw [zero_sub]
  exact congrArg _ (by rw [inv_ln2, ln2]; exact mul_ln2 _)

/-- The minimum over a column of one entry per row is the minimum over the rows. -/
theorem fold_pair_min (e : Fin 196 → EReal) :
    Finset.univ.fold min ⊤ (fun x : Fin 196 × Fin 1 => e x.1) = Finset.univ.fold min ⊤ e := by
  apply le_antisymm
  · exact (Finset.le_fold_min _).mpr ⟨le_top, fun i _ => (Finset.fold_min_le _).mpr (Or.inr ⟨(i, 0), Finset.mem_univ _, le_rfl⟩)⟩
  · exact (Finset.le_fold_min _).mpr ⟨le_top, fun i _ => (Finset.fold_min_le _).mpr (Or.inr ⟨i.1, Finset.mem_univ _, le_rfl⟩)⟩

/-- The maximum over a column of one entry per row is the maximum over the rows. -/
theorem fold_pair_max (e : Fin 196 → EReal) :
    Finset.univ.fold max ⊥ (fun x : Fin 196 × Fin 1 => e x.1) = Finset.univ.fold max ⊥ e := by
  apply le_antisymm
  · exact (Finset.fold_max_le _).mpr ⟨bot_le, fun i _ => (Finset.le_fold_max _).mpr (Or.inr ⟨i.1, Finset.mem_univ _, le_rfl⟩)⟩
  · exact (Finset.fold_max_le _).mpr ⟨bot_le, fun i _ => (Finset.le_fold_max _).mpr (Or.inr ⟨(i, 0), Finset.mem_univ _, le_rfl⟩)⟩

/-- The mask of a line of entropies, as a word. -/
theorem mask_at (e : FVec Ideal S1x196 .f32) (i : Fin 196) :
    k0_pay10 (F := Ideal) e k0_pay8 (iota .tc S196x196 32 [0] iota_S196x196_d0_w32)
        (iota .tc S196x196 32 [1] iota_S196x196_d1_w32) (ix3 0 0 i)
      = (BitVec.ofBool (Model.mask (fun k => e (ix2 0 k)) i)).setWidth 32 := by
  pointwise [k0_pay10, k0_pay8]
  rw [ofBits_pinf, ofBits_ninf, ofBits_twenty, fold_pair_min fun k => e (ix2 0 k), fold_pair_max fun k => e (ix2 0 k)]
  have hb : Finset.univ.fold min ⊤ (fun k => e (ix2 0 k)) + Ideal.ofBits .f32 1045220557#32 *
      (Finset.univ.fold max ⊥ (fun k => e (ix2 0 k)) - Finset.univ.fold min ⊤ (fun k => e (ix2 0 k)))
      = Model.bar fun k => e (ix2 0 k) := rfl
  rw [hb]
  have hs : (∑ x : Fin 196, ∑ _ : Fin 1, FloatOps.sitofp (F := Ideal) .f32
      ((BitVec.ofBool (decide (e (ix2 0 x) < Model.bar fun k => e (ix2 0 k)))).setWidth 32) : EReal)
      = ((Model.below (fun k => e (ix2 0 k)) : ℝ) : EReal) := by
    simp only [Finset.univ_unique, Finset.sum_singleton]
    rw [sum_indicator]
    simp only [decide_eq_true_eq]; rfl
  unfold Model.mask
  by_cases h : Model.below (fun k => e (ix2 0 k)) < 20
  · rw [if_pos (by rw [hs]; exact (card_lt_twenty _).mpr h), if_pos h]
    pointwise
    have hr : ∀ x : Fin 196, IntOp.ori (BitVec.ofBool (decide (∑ _ : Fin 1, e (ix2 0 x) < ∑ _ : Fin 1, e (ix2 0 i))))
        (IntOp.andi (BitVec.ofBool (decide (∑ _ : Fin 1, e (ix2 0 x) = ∑ _ : Fin 1, e (ix2 0 i))))
          (IntOp.cmpi .slt (BitVec.ofNat 32 (x : ℕ)) (BitVec.ofNat 32 (i : ℕ))))
        = BitVec.ofBool (keyBefore (fun k => e (ix2 0 k)) x i) := fun x => by
      simp only [Finset.univ_unique, Finset.sum_singleton]
      rw [WordCmp.cmpi_slt_ofNat (w := 32) (by have := x.isLt; norm_num; omega) (by have := i.isLt; norm_num; omega),
        WordCmp.andi_ofBool, WordCmp.ori_ofBool]
      rfl
    simp only [hr]
    have hc : (∑ x : Fin 196, FloatOps.sitofp (F := Ideal) .f32
        ((BitVec.ofBool (keyBefore (fun k => e (ix2 0 k)) x i)).setWidth 32) : EReal)
        = ((Model.rank (fun k => e (ix2 0 k)) i : ℝ) : EReal) := sum_indicator _
    refine congrArg (fun b => (BitVec.ofBool b).setWidth 32) (decide_eq_decide.mpr ?_)
    rw [hc]
    exact card_lt_twenty _
  · rw [if_neg (by rw [hs]; exact fun h' => h ((card_lt_twenty _).mp h')), if_neg h]
    pointwise

/-- The row mask is the column mask's computation on the row entropies. -/
theorem maskq_eq (e : FVec Ideal S1x196 .f32) :
    k0_pay9 (F := Ideal) e = k0_pay10 (F := Ideal) e k0_pay8 (iota .tc S196x196 32 [0] iota_S196x196_d0_w32)
        (iota .tc S196x196 32 [1] iota_S196x196_d1_w32) := rfl

/-- The three greatest of a row of the matrix. -/
theorem knnq_at (a : FVec Ideal S196x196 .f32) (i : Fin 196) (t : Fin 3) :
    k0_pay12 (F := Ideal) a (iota .tc S196x196 32 [1] iota_S196x196_d1_w32) (k0_pay11 a) 1073741824#32 (ix3 0 i t)
      = BitVec.ofNat 32 (top3 (fun k => a (ix2 i k)) t : ℕ) := by
  pointwise [k0_pay12, k0_pay11]
  simp only [ofBits_ninf, fold_first, select_strike]
  fin_cases t <;> rfl

/-- The three greatest of a column of the matrix. -/
theorem knnr_at (a : FVec Ideal S196x196 .f32) (i : Fin 196) (t : Fin 3) :
    k0_pay1 (F := Ideal) a (iota .tc S196x196 32 [0] iota_S196x196_d0_w32) (k0_pay14 a) (k0_pay15 a) (ix3 0 i t)
      = BitVec.ofNat 32 (top3 (fun k => a (ix2 k i)) t : ℕ) := by
  pointwise [k0_pay1, k0_pay14, k0_pay15, k0_pay13]
  simp only [ofBits_ninf, fold_first, select_strike]
  fin_cases t <;> rfl

end Cert.KernelIdeal.Image

end
-- ==== Proof.Region.lean ====
/- What the kernel's region leaves in each of its seven arrays: the plain quantities of Model, image by image. -/
module

public import proofs.«01_k».proof.Proof.Payloads
public import proofs.«01_k».proof.Proof.Gen.KernelIdeal.Frame
public import Idealize.ShloMosaic.Lib.Pipeline.ValueKit

@[expose] public section

set_option maxRecDepth 16384

noncomputable section

namespace Cert.KernelIdeal.Region

open Idealize.ShloMosaic Idealize.ShloMosaic.TcCoe Idealize.SL.Sem
open Cert.KernelIdeal Cert.KernelIdeal.Gen Cert.KernelIdeal.Image Cert.Ranks

variable (m : (ℓ : Loc nD τ sig) → Buf (Elt Ideal) ℓ)

/-- The affinity of token `i` of `x`'s image `b` and token `j` of `y`'s. -/
def affinity (x y : FVec Ideal S64x196x768 .f32) (b : Fin 64) (i j : Fin 196) : EReal :=
  Model.aff (fun d => x (ix3 b i d)) (fun d => y (ix3 b j d))

/-- The index maps: point `t` works on image `t`, in every window. -/
theorem idx : ∀ t : Fin cfg0.N, win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0]
    ∧ win0_4.index t = ![(grid0.coords t 0).val, 0, 0] ∧ win0_5.index t = ![(grid0.coords t 0).val, 0, 0]
    ∧ win0_6.index t = ![(grid0.coords t 0).val, 0, 0] ∧ win0_7.index t = ![(grid0.coords t 0).val, 0, 0]
    ∧ win0_8.index t = ![(grid0.coords t 0).val, 0, 0] :=
  (by decide +kernel : ∀ t : Fin grid0.N, _)

/-- The image point `t` works on. -/
def image (t : Fin cfg0.N) : Fin 64 := ⟨(grid0.coords t 0).val, (by decide +kernel : ∀ t : Fin grid0.N, (grid0.coords t 0).val < 64) t⟩

/-- The matrix the body computes at point `t` is the affinity matrix of the point's image. -/
theorem matrix (c : Dev nD) (t : Fin cfg0.N) (i j : Fin 196) :
    k0_pay16 (iblk m c 0 t) (iblk m c 1 t) (ix2 i j)
      = affinity (m ((c : Thread nD τ).loc main_arg0)) (m ((c : Thread nD τ).loc main_arg1)) (image t) i j := by
  unfold k0_pay16
  rw [aff_at]
  unfold affinity
  blk_point [iblk, V, idx t, image]

/-- The affinity array. -/
theorem final2 (c : Dev nD) : (dats m 0 c).arrAt 2 (cfgs 0).N
    = fun p => affinity (m ((c : Thread nD τ).loc main_arg0)) (m ((c : Thread nD τ).loc main_arg1)) (p 0) (p 1) (p 2) := by
  refine (dats m 0 c).arrAt_eq_of_covers 2 _ (by decide +kernel) fun t _ y => ?_
  blk_simp
  rw [after0_2]
  frame_out
  idx_vars y
  have place : (win0_2.blk t).view.emb (ix3 y0 y1 y2) = ix3 (image t) y1 y2 := by blk_ext [idx t, image]
  rw [place]
  pointwise [k0_pay3]
  exact matrix m c t y1 y2

/-- The image's row entropies, as the body computes them. -/
theorem rows (c : Dev nD) (t : Fin cfg0.N) (i : Fin 196) :
    k0_pay4 (k0_pay16 (iblk m c 0 t) (iblk m c 1 t)) (ix2 0 i)
      = Model.ent (affinity (m ((c : Thread nD τ).loc main_arg0)) (m ((c : Thread nD τ).loc main_arg1)) (image t) i) := by
  rw [entq_at]
  exact congrArg Model.ent (funext fun k => matrix m c t i k)

/-- The image's column entropies, as the body computes them. -/
theorem columns (c : Dev nD) (t : Fin cfg0.N) (i : Fin 196) :
    k0_pay17 (iblk m c 0 t) (iblk m c 1 t) (ix2 0 i)
      = Model.ent (fun k => affinity (m ((c : Thread nD τ).loc main_arg0)) (m ((c : Thread nD τ).loc main_arg1)) (image t) k i) := by
  unfold k0_pay17
  rw [entr_at]
  exact congrArg Model.ent (funext fun k => matrix m c t k i)

/-- The array of row entropies. -/
theorem final3 (c : Dev nD) : (dats m 0 c).arrAt 3 (cfgs 0).N
    = fun p => Model.ent (affinity (m ((c : Thread nD τ).loc main_arg0)) (m ((c : Thread nD τ).loc main_arg1)) (p 0) (p 2)) := by
  refine (dats m 0 c).arrAt_eq_of_covers 3 _ (by decide +kernel) fun t _ y => ?_
  blk_simp
  rw [after0_3]
  frame_out
  idx_vars y
  have place : (win0_3.blk t).view.emb (ix3 y0 y1 y2) = ix3 (image t) y1 y2 := by blk_ext [idx t, image]
  rw [place]
  pointwise [k0_pay6]
  exact rows m c t y2

/-- The array of column entropies. -/
theorem final4 (c : Dev nD) : (dats m 0 c).arrAt 4 (cfgs 0).N
    = fun p => Model.ent (fun k => affinity (m ((c : Thread nD τ).loc main_arg0)) (m ((c : Thread nD τ).loc main_arg1)) (p 0) k (p 2)) := by
  refine (dats m 0 c).arrAt_eq_of_covers 4 _ (by decide +kernel) fun t _ y => ?_
  blk_simp
  rw [after0_4]
  frame_out
  idx_vars y
  have place : (win0_4.blk t).view.emb (ix3 y0 y1 y2) = ix3 (image t) y1 y2 := by blk_ext [idx t, image]
  rw [place]
  pointwise [k0_pay7]
  exact columns m c t y2

/-- The array of row masks, as words. -/
theorem final5 (c : Dev nD) : (dats m 0 c).arrAt 5 (cfgs 0).N
    = fun p => (BitVec.ofBool (Model.mask (fun i => Model.ent (affinity (m ((c : Thread nD τ).loc main_arg0))
        (m ((c : Thread nD τ).loc main_arg1)) (p 0) i)) (p 2))).setWidth 32 := by
  refine (dats m 0 c).arrAt_eq_of_covers 5 _ (by decide +kernel) fun t _ y => ?_
  blk_simp
  rw [after0_5]
  frame_out
  idx_vars y
  have place : (win0_5.blk t).view.emb (ix3 y0 y1 y2) = ix3 (image t) y1 y2 := by blk_ext [idx t, image]
  rw [place, Subsingleton.elim y0 0, Subsingleton.elim y1 0, maskq_eq, mask_at]
  exact congrArg (fun e => (BitVec.ofBool (Model.mask e y2)).setWidth 32) (funext fun i => rows m c t i)

/-- The array of column masks, as words. -/
theorem final6 (c : Dev nD) : (dats m 0 c).arrAt 6 (cfgs 0).N
    = fun p => (BitVec.ofBool (Model.mask (fun i => Model.ent (fun k => affinity (m ((c : Thread nD τ).loc main_arg0))
        (m ((c : Thread nD τ).loc main_arg1)) (p 0) k i)) (p 2))).setWidth 32 := by
  refine (dats m 0 c).arrAt_eq_of_covers 6 _ (by decide +kernel) fun t _ y => ?_
  blk_simp
  rw [after0_6]
  frame_out
  idx_vars y
  have place : (win0_6.blk t).view.emb (ix3 y0 y1 y2) = ix3 (image t) y1 y2 := by blk_ext [idx t, image]
  rw [place, Subsingleton.elim y0 0, Subsingleton.elim y1 0, mask_at]
  exact congrArg (fun e => (BitVec.ofBool (Model.mask e y2)).setWidth 32) (funext fun i => columns m c t i)

/-- The array of the rows' three nearest columns. -/
theorem final7 (c : Dev nD) : (dats m 0 c).arrAt 7 (cfgs 0).N
    = fun p => BitVec.ofNat 32 (top3 (affinity (m ((c : Thread nD τ).loc main_arg0))
        (m ((c : Thread nD τ).loc main_arg1)) (p 0) (p 1)) (p 2) : ℕ) := by
  refine (dats m 0 c).arrAt_eq_of_covers 7 _ (by decide +kernel) fun t _ y => ?_
  blk_simp
  rw [after0_7]
  frame_out
  idx_vars y
  have place : (win0_7.blk t).view.emb (ix3 y0 y1 y2) = ix3 (image t) y1 y2 := by blk_ext [idx t, image]
  rw [place, Subsingleton.elim y0 0, knnq_at]
  exact congrArg (fun f : Fin 196 → EReal => BitVec.ofNat 32 (top3 f y2 : ℕ)) (funext fun k => matrix m c t y1 k)

/-- The array of the columns' three nearest rows. -/
theorem final8 (c : Dev nD) : (dats m 0 c).arrAt 8 (cfgs 0).N
    = fun p => BitVec.ofNat 32 (top3 (fun k => affinity (m ((c : Thread nD τ).loc main_arg0))
        (m ((c : Thread nD τ).loc main_arg1)) (p 0) k (p 1)) (p 2) : ℕ) := by
  refine (dats m 0 c).arrAt_eq_of_covers 8 _ (by decide +kernel) fun t _ y => ?_
  blk_simp
  rw [after0_8]
  frame_out
  idx_vars y
  have place : (win0_8.blk t).view.emb (ix3 y0 y1 y2) = ix3 (image t) y1 y2 := by blk_ext [idx t, image]
  rw [place, Subsingleton.elim y0 0, knnr_at]
  exact congrArg (fun f : Fin 196 → EReal => BitVec.ofNat 32 (top3 f y2 : ℕ)) (funext fun k => matrix m c t k y1)

end Cert.KernelIdeal.Region

end

end
-- ==== Proof.Results.lean ====
/- The kernel's seven results: the region's arrays, and what the operations after the region make of them. -/
module

public import proofs.«01_k».proof.Proof.Region
public import Idealize.ShloMosaic.Lib.StableHlo.Run

@[expose] public section

set_option maxRecDepth 16384

noncomputable section

namespace Cert.KernelIdeal.Results

open Idealize.ShloMosaic Idealize.ShloMosaic.TcCoe Idealize.SL.Sem
open Cert.KernelIdeal Cert.KernelIdeal.Gen Cert.KernelIdeal.Region Cert.Ranks

variable (m : (ℓ : Loc nD τ sig) → Buf (Elt Ideal) ℓ)

/-- What device `c` holds when the region is done. -/
abbrev exit (c : Dev nD) : Valuation τ sig (Elt Ideal) :=
  Pipeline.withArrays (cfgs 0).spec c (V0 m c) fun w => (dats m 0 c).arrAt w (cfgs 0).N

/-- The array of row entropies, when the region is done. -/
theorem exit3 (c : Dev nD) : exit m c (Proc.devRef .tc main_call0_v0_1) = (dats m 0 c).arrAt 3 (cfgs 0).N :=
  Pipeline.withArrays_arr (cfgs 0).spec launch0.win.arr_inj c _ _ 3
/-- The array of column entropies, when the region is done. -/
theorem exit4 (c : Dev nD) : exit m c (Proc.devRef .tc main_call0_v0_2) = (dats m 0 c).arrAt 4 (cfgs 0).N :=
  Pipeline.withArrays_arr (cfgs 0).spec launch0.win.arr_inj c _ _ 4
/-- The array of row mask words, when the region is done. -/
theorem exit5 (c : Dev nD) : exit m c (Proc.devRef .tc main_call0_v0_3) = (dats m 0 c).arrAt 5 (cfgs 0).N :=
  Pipeline.withArrays_arr (cfgs 0).spec launch0.win.arr_inj c _ _ 5
/-- The array of column mask words, when the region is done. -/
theorem exit6 (c : Dev nD) : exit m c (Proc.devRef .tc main_call0_v0_4) = (dats m 0 c).arrAt 6 (cfgs 0).N :=
  Pipeline.withArrays_arr (cfgs 0).spec launch0.win.arr_inj c _ _ 6

/-- The row entropies: the region's array without its middle axis of size one. -/
theorem tail1 (c : Dev nD) : Pipeline.afterTail₀ cfgs (dats m) 0 (V0 m) [hostOps1] c main_v0_1
    = shapeCast S64x196 (exit m c (Proc.devRef .tc main_call0_v0_1) : Vec Ideal S64x1x196 .f32) shapeCasts_S64x1x196_S64x196 := by
  unfold Pipeline.afterTail₀
  simp only [hostOps1, List.flatten_cons, List.flatten_nil, List.append_nil, StableHlo.TRef.reshape, StableHlo.TRef.binary,
    StableHlo.TRef.nullary, StableHlo.TRef.unary, StableHlo.TRef.toBuf, StableHlo.TRef.ofBuf, cast_eq]
  after_results_simp
  rfl

/-- The column entropies, likewise. -/
theorem tail2 (c : Dev nD) : Pipeline.afterTail₀ cfgs (dats m) 0 (V0 m) [hostOps1] c main_v0_2
    = shapeCast S64x196 (exit m c (Proc.devRef .tc main_call0_v0_2) : Vec Ideal S64x1x196 .f32) shapeCasts_S64x1x196_S64x196 := by
  unfold Pipeline.afterTail₀
  simp only [hostOps1, List.flatten_cons, List.flatten_nil, List.append_nil, StableHlo.TRef.reshape, StableHlo.TRef.binary,
    StableHlo.TRef.nullary, StableHlo.TRef.unary, StableHlo.TRef.toBuf, StableHlo.TRef.ofBuf, cast_eq]
  after_results_simp
  rfl

/-- The row mask: where the region's word is not zero. -/
theorem tail3 (c : Dev nD) : Pipeline.afterTail₀ cfgs (dats m) 0 (V0 m) [hostOps1] c main_v0_3
    = cmpi .ne (shapeCast S64x196 (exit m c (Proc.devRef .tc main_call0_v0_3) : Vec Ideal S64x1x196 .i32) shapeCasts_S64x1x196_S64x196)
        (broadcastInDim S64x196 ![] bcast_S_S64x196 (constantI S_ 32 0#32)) := by
  unfold Pipeline.afterTail₀
  simp only [hostOps1, List.flatten_cons, List.flatten_nil, List.append_nil, StableHlo.TRef.reshape, StableHlo.TRef.binary,
    StableHlo.TRef.nullary, StableHlo.TRef.unary, StableHlo.TRef.toBuf, StableHlo.TRef.ofBuf, cast_eq]
  after_results_simp
  rfl

/-- The column mask, likewise. -/
theorem tail4 (c : Dev nD) : Pipeline.afterTail₀ cfgs (dats m) 0 (V0 m) [hostOps1] c main_v0_4
    = cmpi .ne (shapeCast S64x196 (exit m c (Proc.devRef .tc main_call0_v0_4) : Vec Ideal S64x1x196 .i32) shapeCasts_S64x1x196_S64x196)
        (broadcastInDim S64x196 ![] bcast_S_S64x196 (constantI S_ 32 0#32)) := by
  unfold Pipeline.afterTail₀
  simp only [hostOps1, List.flatten_cons, List.flatten_nil, List.append_nil, StableHlo.TRef.reshape, StableHlo.TRef.binary,
    StableHlo.TRef.nullary, StableHlo.TRef.unary, StableHlo.TRef.toBuf, StableHlo.TRef.ofBuf, cast_eq]
  after_results_simp
  rfl

/-- A mask bit, written as a word and compared with zero, is the bit. -/
theorem word_ne_zero (b : Bool) : IntOp.cmpi .ne ((BitVec.ofBool b).setWidth 32) 0#32 = BitVec.ofBool b := by
  cases b <;> decide

/-- The kernel's run: each result, at an index, is the quantity of Model over the arguments' affinities, and the arguments
    end unchanged. -/
theorem run (ρ : Dev nD → PrngReg) : θ_run defs (onTc (τ := τ) (main (F := Ideal))) ⟨m, fun _ => 0, ρ⟩ fun r => ∀ c : Dev nD,
    r.2.mem ((c.tc : Thread nD τ).loc main_v0_0) = (fun p => affinity (m ((c : Thread nD τ).loc main_arg0)) (m ((c : Thread nD τ).loc main_arg1)) (p 0) (p 1) (p 2) : FVec Ideal S64x196x196 .f32)
    ∧ r.2.mem ((c.tc : Thread nD τ).loc main_v0_1) = (fun p => Model.ent (affinity (m ((c : Thread nD τ).loc main_arg0)) (m ((c : Thread nD τ).loc main_arg1)) (p 0) (p 1)) : FVec Ideal S64x196 .f32)
    ∧ r.2.mem ((c.tc : Thread nD τ).loc main_v0_2)
      = (fun p => Model.ent (fun k => affinity (m ((c : Thread nD τ).loc main_arg0)) (m ((c : Thread nD τ).loc main_arg1)) (p 0) k (p 1)) : FVec Ideal S64x196 .f32)
    ∧ r.2.mem ((c.tc : Thread nD τ).loc main_v0_3)
      = (fun p => BitVec.ofBool (Model.mask (fun i => Model.ent (affinity (m ((c : Thread nD τ).loc main_arg0)) (m ((c : Thread nD τ).loc main_arg1)) (p 0) i)) (p 1)) : IVec S64x196 1)
    ∧ r.2.mem ((c.tc : Thread nD τ).loc main_v0_4)
      = (fun p => BitVec.ofBool (Model.mask (fun i => Model.ent (fun k => affinity (m ((c : Thread nD τ).loc main_arg0)) (m ((c : Thread nD τ).loc main_arg1)) (p 0) k i)) (p 1)) : IVec S64x196 1)
    ∧ r.2.mem ((c.tc : Thread nD τ).loc main_v0_5)
      = (fun p => BitVec.ofNat 32 (top3 (affinity (m ((c : Thread nD τ).loc main_arg0)) (m ((c : Thread nD τ).loc main_arg1)) (p 0) (p 1)) (p 2) : ℕ) : IVec S64x196x3 32)
    ∧ r.2.mem ((c.tc : Thread nD τ).loc main_v0_6)
      = (fun p => BitVec.ofNat 32 (top3 (fun k => affinity (m ((c : Thread nD τ).loc main_arg0)) (m ((c : Thread nD τ).loc main_arg1)) (p 0) k (p 1)) (p 2) : ℕ) : IVec S64x196x3 32)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (Gen.run_main m ρ)
  obtain ⟨ha, hr⟩ := h c
  refine ⟨(ha 2).trans (final2 m c), ?_, ?_, ?_, ?_, (ha 7).trans (final7 m c), (ha 8).trans (final8 m c),
    (ha 0).trans (((dats m 0 c).arrAt_in 0 rfl _).trans ((A_eq m c 0).trans (V_main_arg0 m c))),
    (ha 1).trans (((dats m 0 c).arrAt_in 1 rfl _).trans ((A_eq m c 1).trans (V_main_arg1 m c)))⟩
  · refine (hr main_v0_1 (by decide)).trans ((tail1 m c).trans ?_)
    rw [exit3, final3]
    funext p
    idx_vars p
    pointwise
  · refine (hr main_v0_2 (by decide)).trans ((tail2 m c).trans ?_)
    rw [exit4, final4]
    funext p
    idx_vars p
    pointwise
  · refine (hr main_v0_3 (by decide)).trans ((tail3 m c).trans ?_)
    rw [exit5, final5]
    funext p
    idx_vars p
    pointwise
    exact word_ne_zero _
  · refine (hr main_v0_4 (by decide)).trans ((tail4 m c).trans ?_)
    rw [exit6, final6]
    funext p
    idx_vars p
    pointwise
    exact word_ne_zero _

end Cert.KernelIdeal.Results

end

end
-- ==== Proof.Reference.lean ====
/- The reference's seven results, read at an index: the plain quantities of Model. -/
module

public import proofs.«01_k».proof.Proof.Scalars
public import proofs.«01_k».proof.Proof.Gen.ReferenceIdeal.Run
public import Idealize.ShloMosaic.Lib.Pointwise

@[expose] public section

set_option maxRecDepth 16384

noncomputable section

namespace Cert.ReferenceIdeal.Batch

open Idealize.ShloMosaic Idealize.ShloMosaic.TcCoe Idealize.SL.Sem
open Cert.ReferenceIdeal Cert.ReferenceIdeal.Gen Cert.Ranks Cert.Scalars

/-- The batch's tokens scaled to unit length. -/
def UNIT (x : FVec Ideal S64x196x768 .f32) : FVec Ideal S64x196x768 .f32 :=
  Host.divf x (broadcastInDim S64x196x768 ![0, 1, 2] bcast_S64x196x1_S64x196x768_0_1_2
    (maximumf (broadcastInDim S64x196x1 ![] bcast_S_S64x196x1 (id (constant S_ .f32 0x2B8CBCCC#32)))
      (Host.sqrt (broadcastInDim S64x196x1 ![0, 1] bcast_S64x196_S64x196x1_0_1
        (Host.reduceAdd (mulf x x) (constant S_ .f32 0x00000000#32) reducesTo_S64x196x768_S64x196_d2 h_S_)))))

/-- The batch's affinities. -/
def AFF (x y : FVec Ideal S64x196x768 .f32) : FVec Ideal S64x196x196 .f32 :=
  Host.dotGeneral dot_S64x196x768_S64x196x768_S64x196x196_2_2_1_1_0_0 none (UNIT x) (UNIT y)

/-- The shares along the last axis. -/
def PROB (a : FVec Ideal S64x196x196 .f32) : FVec Ideal S64x196x196 .f32 :=
  Host.divf (Host.exp (mulf a (broadcastInDim S64x196x196 ![] bcast_S_S64x196x196 (constant S_ .f32 0x40A00000#32))))
    (broadcastInDim S64x196x196 ![0, 1, 2] bcast_S64x196x1_S64x196x196_0_1_2
      (broadcastInDim S64x196x1 ![0, 1] bcast_S64x196_S64x196x1_0_1
        (Host.reduceAdd
          (Host.exp (mulf a (broadcastInDim S64x196x196 ![] bcast_S_S64x196x196 (constant S_ .f32 0x40A00000#32))))
          (constant S_ .f32 0x00000000#32) reducesTo_S64x196x196_S64x196_d2 h_S_)))

/-- The entropies along the last axis. -/
def ENT (a : FVec Ideal S64x196x196 .f32) : FVec Ideal S64x196 .f32 :=
  Host.reduceAdd (mulf (Host.negf (PROB a)) (Host.log (PROB a))) (constant S_ .f32 0x00000000#32)
    reducesTo_S64x196x196_S64x196_d2 h_S_

/-- The affinities with the two token axes exchanged. -/
def SWAP (a : FVec Ideal S64x196x196 .f32) : FVec Ideal S64x196x196 .f32 :=
  transpose S64x196x196 [0, 2, 1] a transposes_S64x196x196_S64x196x196_0_2_1

/-- The least entropy of each image. -/
def LEAST (e : FVec Ideal S64x196 .f32) : FVec Ideal S64x1 .f32 :=
  broadcastInDim S64x1 ![0] bcast_S64_S64x1_0
    (Host.reduce FloatOps.minimumf e (constant S_ .f32 0x7F800000#32) reducesTo_S64x196_S64_d1 h_S_)

/-- The greatest entropy of each image. -/
def MOST (e : FVec Ideal S64x196 .f32) : FVec Ideal S64x1 .f32 :=
  broadcastInDim S64x1 ![0] bcast_S64_S64x1_0
    (Host.reduce FloatOps.maximumf e (constant S_ .f32 0xFF800000#32) reducesTo_S64x196_S64_d1 h_S_)

/-- Which tokens lie below their image's bar. -/
def BELOW (e : FVec Ideal S64x196 .f32) : IVec S64x196 1 :=
  cmpf .olt e (broadcastInDim S64x196 ![0, 1] bcast_S64x1_S64x196_0_1
    (addf (LEAST e) (mulf (broadcastInDim S64x1 ![] bcast_S_S64x1 (constant S_ .f32 0x3E4CCCCD#32))
      (subf (MOST e) (LEAST e)))))

/-- The positions sorted by entropy. -/
def ORDER (e : FVec Ideal S64x196 .f32) : IVec S64x196 32 :=
  (Host.sort2 S64x196 1 (comparator_f32_i32_d1 (F := Ideal)) e (iotaInDim S64x196 32 1)).2

/-- The positions of a table of words sorted by those words. -/
def ARGSORT (o : IVec S64x196 32) : IVec S64x196 32 :=
  (Host.sort2 S64x196 1 comparator_i32_i32_d1 o (iotaInDim S64x196 32 1)).2

/-- The mask. -/
def MASK (e : FVec Ideal S64x196 .f32) : IVec S64x196 1 :=
  select (broadcastInDim S64x196 ![0, 1] bcast_S64x1_S64x196_0_1
      (cmpi .slt (broadcastInDim S64x1 ![0] bcast_S64_S64x1_0
          (Host.reduce IntOp.addi (extui 32 (BELOW e) natLt_1_32) (constantI S_ 32 0#32) reducesTo_S64x196_S64_d1 h_S_))
        (broadcastInDim S64x1 ![] bcast_S_S64x1 (constantI S_ 32 20#32))))
    (cmpi .slt (ARGSORT (ORDER e)) (broadcastInDim S64x196 ![] bcast_S_S64x196 (constantI S_ 32 20#32)))
    (BELOW e)

/-- The positions of the three greatest along the last axis. -/
def KNN (a : FVec Ideal S64x196x196 .f32) : IVec S64x196x3 32 :=
  (Host.topK S64x196x3 2 (FloatOps.cmpfTotal (F := Ideal) .gt) a sliceFits_S64x196x196_S64x196x3).2

/-! ### At an index -/

/-- The batch's affinity at an index is the affinity of the two tokens there. -/
theorem aff_at (x y : FVec Ideal S64x196x768 .f32) (b : Fin 64) (i j : Fin 196) :
    AFF x y (ix3 b i j) = Model.aff (fun d => x (ix3 b i d)) (fun d => y (ix3 b j d)) := by
  pointwise [AFF, UNIT]
  unfold Model.aff Model.len
  refine Finset.sum_congr rfl fun d _ => ?_
  rw [max_comm (Ideal.sqrt _), max_comm (Ideal.sqrt _)]
  rfl

/-- The batch's entropy at an index is the entropy of the line there. -/
theorem ent_at (a : FVec Ideal S64x196x196 .f32) (b : Fin 64) (i : Fin 196) :
    ENT a (ix2 b i) = Model.ent (fun k => a (ix3 b i k)) := by
  pointwise [ENT, PROB]
  rfl

/-- The exchanged affinities at an index are the affinities at the exchanged index. -/
theorem swap_at (a : FVec Ideal S64x196x196 .f32) (b : Fin 64) (i j : Fin 196) :
    SWAP a (ix3 b i j) = a (ix3 b j i) := by
  pointwise [SWAP]

/-- A token is marked below the bar exactly when its entropy is below its image's bar. -/
theorem below_at (e : FVec Ideal S64x196 .f32) (b : Fin 64) (i : Fin 196) :
    BELOW e (ix2 b i) = BitVec.ofBool (decide (e (ix2 b i) < Model.bar fun k => e (ix2 b k))) := by
  pointwise [BELOW, LEAST, MOST]
  rw [ofBits_pinf, ofBits_ninf]
  rfl

/-- The comparator of the first sort asks for the smaller entropy. -/
theorem comparator_eq (l r : Ideal .f32 × BitVec 32) :
    comparator_f32_i32_d1 (F := Ideal) l r = BitVec.ofBool (decide ((l.1 : EReal) < r.1)) := by
  have h : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits .f32 0x00000000#32))
        (FloatOps.ofBits (F := Ideal) .f32 0x00000000#32) x) = x := fun x => by
    pointwise
    rw [if_neg (not_not.mpr rfl)]
    by_cases hx : x = 0
    · rw [if_pos hx, hx]
    · rw [if_neg hx]
  unfold comparator_f32_i32_d1
  simp only [h]
  rfl

/-- A two-operand sort along the last of two axes, read at an index. -/
theorem sort2_at {α β : Type} (cmp : α × β → α × β → BitVec 1) (x : S64x196.Idx → α) (y : S64x196.Idx → β)
    (b : Fin 64) (i : Fin 196) :
    (Host.sort2 S64x196 1 cmp x y).2 (ix2 b i)
      = y (ix2 b (sortedFrom (fun k k' : Fin 196 =>
          cmp (x (ix2 b k), y (ix2 b k)) (x (ix2 b k'), y (ix2 b k')) == 1#1) i)) := by
  have hl : ∀ k : Fin 196, Shape.Idx.along (s := S64x196) (ix2 b i) (⟨1, Nat.one_lt_two⟩ : Fin 2) k = ix2 b k := fun k => by
    funext d
    fin_cases d
    · rfl
    · rfl
  unfold Host.sort2
  rw [dif_pos (show 1 < S64x196.rank from Nat.one_lt_two)]
  have key : ∀ L : Fin 196 → S64x196.Idx, (∀ k, L k = ix2 b k) →
      y (L (sortedFrom (fun k k' : Fin 196 => cmp (x (L k), y (L k)) (x (L k'), y (L k')) == 1#1) i))
        = y (ix2 b (sortedFrom (fun k k' : Fin 196 =>
          cmp (x (ix2 b k), y (ix2 b k)) (x (ix2 b k'), y (ix2 b k')) == 1#1) i)) := fun L hL => by
    obtain rfl : L = fun k => ix2 b k := funext hL
    rfl
  exact key (fun k => Shape.Idx.along (s := S64x196) (ix2 b i) (⟨1, Nat.one_lt_two⟩ : Fin 2) k) hl

/-- The same along the last of three axes. -/
theorem sort2_at3 {α β : Type} (cmp : α × β → α × β → BitVec 1) (x : S64x196x196.Idx → α) (y : S64x196x196.Idx → β)
    (b : Fin 64) (i j : Fin 196) :
    (Host.sort2 S64x196x196 2 cmp x y).2 (ix3 b i j)
      = y (ix3 b i (sortedFrom (fun k k' : Fin 196 =>
          cmp (x (ix3 b i k), y (ix3 b i k)) (x (ix3 b i k'), y (ix3 b i k')) == 1#1) j)) := by
  have hl : ∀ k : Fin 196, Shape.Idx.along (s := S64x196x196) (ix3 b i j) (⟨2, Nat.lt_succ_self 2⟩ : Fin 3) k = ix3 b i k := fun k => by
    funext d
    fin_cases d
    · rfl
    · rfl
    · rfl
  unfold Host.sort2
  rw [dif_pos (show 2 < S64x196x196.rank from Nat.lt_succ_self 2)]
  have key : ∀ L : Fin 196 → S64x196x196.Idx, (∀ k, L k = ix3 b i k) →
      y (L (sortedFrom (fun k k' : Fin 196 => cmp (x (L k), y (L k)) (x (L k'), y (L k')) == 1#1) j))
        = y (ix3 b i (sortedFrom (fun k k' : Fin 196 =>
          cmp (x (ix3 b i k), y (ix3 b i k)) (x (ix3 b i k'), y (ix3 b i k')) == 1#1) j)) := fun L hL => by
    obtain rfl : L = fun k => ix3 b i k := funext hL
    rfl
  exact key (fun k => Shape.Idx.along (s := S64x196x196) (ix3 b i j) (⟨2, Nat.lt_succ_self 2⟩ : Fin 3) k) hl

/-- A truth value written as a bit and compared with one is the truth value. -/
theorem ofBool_beq (b : Bool) : (BitVec.ofBool b == 1#1) = b := by cases b <;> rfl

/-- The first sort lists the positions by entropy, ties by position. -/
theorem order_at (e : FVec Ideal S64x196 .f32) (b : Fin 64) (i : Fin 196) :
    ORDER e (ix2 b i) = BitVec.ofNat 32 (sortedFrom (keyBefore fun k => e (ix2 b k)) i : ℕ) := by
  unfold ORDER
  rw [sort2_at]
  simp only [comparator_eq, ofBool_beq]
  rw [sortedFrom_key (fun k => e (ix2 b k))]
  rfl

/-- The second sort gives each position its rank. -/
theorem argsort_at (e : FVec Ideal S64x196 .f32) (b : Fin 64) (i : Fin 196) :
    ARGSORT (ORDER e) (ix2 b i) = BitVec.ofNat 32 (Model.rank (fun k => e (ix2 b k)) i) := by
  unfold ARGSORT
  rw [sort2_at]
  have hc : ∀ k k' : Fin 196, (comparator_i32_i32_d1 (ORDER e (ix2 b k), iotaInDim S64x196 32 1 (ix2 b k))
      (ORDER e (ix2 b k'), iotaInDim S64x196 32 1 (ix2 b k')) == 1#1)
      = decide (sortedFrom (keyBefore fun k => e (ix2 b k)) k < sortedFrom (keyBefore fun k => e (ix2 b k)) k') := fun k k' => by
    show (IntOp.cmpi .slt (ORDER e (ix2 b k)) (ORDER e (ix2 b k')) == 1#1) = _
    rw [order_at, order_at, WordCmp.cmpi_slt_ofNat (w := 32)
      (by have := (sortedFrom (keyBefore fun k => e (ix2 b k)) k).isLt; norm_num; omega)
      (by have := (sortedFrom (keyBefore fun k => e (ix2 b k)) k').isLt; norm_num; omega), ofBool_beq]
    rfl
  simp only [hc]
  unfold Model.rank
  rw [← rank_eq_card (keyBefore_total fun k => e (ix2 b k)) i]
  rfl

/-- A rank is at most 196. -/
theorem rank_le (e : Fin 196 → EReal) (i : Fin 196) : Model.rank e i ≤ 196 :=
  (Finset.card_le_univ _).trans (by simp)

/-- At most 196 tokens lie below the bar. -/
theorem below_le (e : Fin 196 → EReal) : Model.below e ≤ 196 :=
  (Finset.card_le_univ _).trans (by simp)

/-- The mask of each image's line of entropies. -/
theorem mask_at (e : FVec Ideal S64x196 .f32) (b : Fin 64) (i : Fin 196) :
    MASK e (ix2 b i) = BitVec.ofBool (Model.mask (fun k => e (ix2 b k)) i) := by
  pointwise [MASK]
  have hcount : Finset.univ.fold IntOp.addi 0#32 (fun x : Fin 196 => (BELOW e (ix2 b x)).setWidth 32)
      = BitVec.ofNat 32 (Model.below fun k => e (ix2 b k)) := by
    rw [IndicatorCount.fold_addi_setWidth_eq_card (fun x : Fin 196 => BELOW e (ix2 b x))]
    simp only [below_at, WordCmp.ofBool_decide_eq_one_iff]
    rfl
  rw [hcount, argsort_at, below_at, slt_twenty (below_le _), slt_twenty (rank_le _ _)]
  unfold Model.mask
  by_cases h : Model.below (fun k => e (ix2 b k)) < 20 <;> simp [h, Scalar.select]

/-- The three positions listed at an index are the line's three greatest, where the line has no `⊥`. -/
theorem knn_at (a : FVec Ideal S64x196x196 .f32) (b : Fin 64) (i : Fin 196) (t : Fin 3)
    (ha : ∀ k, a (ix3 b i k) ≠ ⊥) :
    KNN a (ix3 b i t) = BitVec.ofNat 32 (top3 (fun k => a (ix3 b i k)) t : ℕ) := by
  unfold KNN Host.topK
  pointwise
  have e : (ix3 b i ⟨(t : ℕ), by omega⟩ : S64x196x196.Idx) = ix3 b i (t.castLE (by norm_num)) := rfl
  rw [e, sort2_at3]
  have hc : ∀ k k' : Fin 196, (FloatOps.cmpfTotal (F := Ideal) (φ := .f32) .gt (a (ix3 b i k)) (a (ix3 b i k')) == 1#1)
      = decide ((fun k => a (ix3 b i k)) k' < (fun k => a (ix3 b i k)) k) := fun k k' => by
    have e : FloatOps.cmpfTotal (F := Ideal) (φ := .f32) .gt (a (ix3 b i k)) (a (ix3 b i k'))
        = BitVec.ofBool (decide ((a (ix3 b i k') : EReal) < a (ix3 b i k))) := rfl
    rw [e, ofBool_beq]
  simp only [hc]
  rw [← sortedFrom_top3 (n := 196) (by norm_num) (fun k => a (ix3 b i k)) ha t]
  simp only [ix3_2]

end Cert.ReferenceIdeal.Batch

end
-- ==== Proof.Answers.lean ====
/- The reference's seven results, from its run: the batch quantities of Reference over its arguments. -/
module

public import proofs.«01_k».proof.Proof.Reference
public import proofs.«01_k».proof.Proof.Gen.ReferenceIdeal.Run

@[expose] public section

set_option maxRecDepth 16384

noncomputable section

namespace Cert.ReferenceIdeal.Answers

open Idealize.ShloMosaic Idealize.ShloMosaic.TcCoe Idealize.SL.Sem
open Cert.ReferenceIdeal Cert.ReferenceIdeal.Gen Cert.ReferenceIdeal.Batch

variable (m : (ℓ : Loc nD τ sig) → Buf (Elt Ideal) ℓ)

/-- The reference's second result is the entropy along the affinities' rows. -/
theorem v19 (c : Dev nD) : Value.res_main_v19 m c
    = ENT (AFF (m ((c.tc : Thread nD τ).loc main_arg0)) (m ((c.tc : Thread nD τ).loc main_arg1))) := by
  unfold Value.res_main_v19
  rfl

/-- The reference's third result is the entropy along the affinities' columns. -/
theorem v31 (c : Dev nD) : Value.res_main_v31 m c
    = ENT (SWAP (AFF (m ((c.tc : Thread nD τ).loc main_arg0)) (m ((c.tc : Thread nD τ).loc main_arg1)))) := by
  unfold Value.res_main_v31
  rfl

/-- The reference's fourth result is the mask of the row entropies. -/
theorem v51 (c : Dev nD) : Value.res_main_v51 m c
    = MASK (ENT (AFF (m ((c.tc : Thread nD τ).loc main_arg0)) (m ((c.tc : Thread nD τ).loc main_arg1)))) := by
  unfold Value.res_main_v51
  rfl

/-- The reference's fifth result is the mask of the column entropies. -/
theorem v71 (c : Dev nD) : Value.res_main_v71 m c
    = MASK (ENT (SWAP (AFF (m ((c.tc : Thread nD τ).loc main_arg0)) (m ((c.tc : Thread nD τ).loc main_arg1))))) := by
  unfold Value.res_main_v71
  rfl

/-- The reference's run, its results as the batch quantities of its arguments. -/
theorem run (ρ : Dev nD → PrngReg) : θ_run defs (onTc (τ := τ) (main (F := Ideal))) ⟨m, fun _ => 0, ρ⟩ fun r => ∀ c : Dev nD,
    r.2.mem ((c.tc : Thread nD τ).loc main_v8) = AFF (m ((c.tc : Thread nD τ).loc main_arg0)) (m ((c.tc : Thread nD τ).loc main_arg1))
    ∧ r.2.mem ((c.tc : Thread nD τ).loc main_v19) = ENT (AFF (m ((c.tc : Thread nD τ).loc main_arg0)) (m ((c.tc : Thread nD τ).loc main_arg1)))
    ∧ r.2.mem ((c.tc : Thread nD τ).loc main_v31) = ENT (SWAP (AFF (m ((c.tc : Thread nD τ).loc main_arg0)) (m ((c.tc : Thread nD τ).loc main_arg1))))
    ∧ r.2.mem ((c.tc : Thread nD τ).loc main_v51) = MASK (ENT (AFF (m ((c.tc : Thread nD τ).loc main_arg0)) (m ((c.tc : Thread nD τ).loc main_arg1))))
    ∧ r.2.mem ((c.tc : Thread nD τ).loc main_v71) = MASK (ENT (SWAP (AFF (m ((c.tc : Thread nD τ).loc main_arg0)) (m ((c.tc : Thread nD τ).loc main_arg1)))))
    ∧ r.2.mem ((c.tc : Thread nD τ).loc main_indices) = KNN (AFF (m ((c.tc : Thread nD τ).loc main_arg0)) (m ((c.tc : Thread nD τ).loc main_arg1)))
    ∧ r.2.mem ((c.tc : Thread nD τ).loc main_indices_19) = KNN (SWAP (AFF (m ((c.tc : Thread nD τ).loc main_arg0)) (m ((c.tc : Thread nD τ).loc main_arg1))))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => by
    obtain ⟨h0, h1, h2, h3, h4, h5, h6, h7, h8⟩ := h c
    exact ⟨h0, h1.trans (v19 m c), h2.trans (v31 m c), h3.trans (v51 m c), h4.trans (v71 m c), h5, h6, h7, h8⟩)
    (Value.run (F := Ideal) m ρ)

end Cert.ReferenceIdeal.Answers

end

end
-- ==== Proof.Agree.lean ====
/- The two programs agree: the reference's batch quantities, read at an index, are the kernel's. -/
module

public import proofs.«01_k».proof.Proof.Results
public import proofs.«01_k».proof.Proof.Answers

@[expose] public section

set_option maxRecDepth 16384

noncomputable section

namespace Cert.Agree

open Idealize.ShloMosaic Idealize.ShloMosaic.TcCoe Idealize.SL.Sem
open Cert.KernelIdeal Cert.KernelIdeal.Region Cert.ReferenceIdeal.Batch Cert.Ranks

variable (x y : FVec Ideal S64x196x768 .f32)

/-- One image's row of the reference's affinities is the kernel's. -/
theorem row (b : Fin 64) (i : Fin 196) : (fun k => AFF x y (ix3 b i k)) = affinity x y b i :=
  funext fun k => aff_at x y b i k

/-- One image's row of the reference's exchanged affinities is the kernel's column. -/
theorem column (b : Fin 64) (i : Fin 196) : (fun k => SWAP (AFF x y) (ix3 b i k)) = fun k => affinity x y b k i :=
  funext fun k => (swap_at _ b i k).trans (aff_at x y b k i)

/-- The affinities agree. -/
theorem aff : (fun p => affinity x y (p 0) (p 1) (p 2) : FVec Ideal S64x196x196 .f32) = AFF x y := by
  funext p
  idx_vars p
  exact (aff_at x y p0 p1 p2).symm

/-- The reference's row entropy is the kernel's. -/
theorem ent_row (b : Fin 64) (i : Fin 196) : ENT (AFF x y) (ix2 b i) = Model.ent (affinity x y b i) := by
  rw [ent_at, row]

/-- The reference's column entropy is the kernel's. -/
theorem ent_column (b : Fin 64) (i : Fin 196) : ENT (SWAP (AFF x y)) (ix2 b i) = Model.ent (fun k => affinity x y b k i) := by
  rw [ent_at, column]

/-- The row entropies agree. -/
theorem rows : (fun p => Model.ent (affinity x y (p 0) (p 1)) : FVec Ideal S64x196 .f32) = ENT (AFF x y) := by
  funext p
  idx_vars p
  exact (ent_row x y p0 p1).symm

/-- The column entropies agree. -/
theorem columns : (fun p => Model.ent (fun k => affinity x y (p 0) k (p 1)) : FVec Ideal S64x196 .f32) = ENT (SWAP (AFF x y)) := by
  funext p
  idx_vars p
  exact (ent_column x y p0 p1).symm

/-- The row masks agree. -/
theorem row_mask : (fun p => BitVec.ofBool (Model.mask (fun i => Model.ent (affinity x y (p 0) i)) (p 1)) : IVec S64x196 1)
    = MASK (ENT (AFF x y)) := by
  funext p
  idx_vars p
  refine Eq.trans ?_ (mask_at _ p0 p1).symm
  exact congrArg (fun e => BitVec.ofBool (Model.mask e p1)) (funext fun i => (ent_row x y p0 i).symm)

/-- The column masks agree. -/
theorem column_mask : (fun p => BitVec.ofBool (Model.mask (fun i => Model.ent (fun k => affinity x y (p 0) k i)) (p 1)) : IVec S64x196 1)
    = MASK (ENT (SWAP (AFF x y))) := by
  funext p
  idx_vars p
  refine Eq.trans ?_ (mask_at _ p0 p1).symm
  exact congrArg (fun e => BitVec.ofBool (Model.mask e p1)) (funext fun i => (ent_column x y p0 i).symm)

/-- The rows' three nearest columns agree: no affinity is `⊥`, so every one of the three is a position's own. -/
theorem row_near : (fun p => BitVec.ofNat 32 (top3 (affinity x y (p 0) (p 1)) (p 2) : ℕ) : IVec S64x196x3 32) = KNN (AFF x y) := by
  funext p
  idx_vars p
  refine Eq.trans ?_ (knn_at _ p0 p1 p2 fun k => by rw [aff_at]; exact Scalars.aff_ne_bot _ _).symm
  exact congrArg (fun f : Fin 196 → EReal => BitVec.ofNat 32 (top3 f p2 : ℕ)) (row x y p0 p1).symm

/-- The columns' three nearest rows agree. -/
theorem column_near : (fun p => BitVec.ofNat 32 (top3 (fun k => affinity x y (p 0) k (p 1)) (p 2) : ℕ) : IVec S64x196x3 32)
    = KNN (SWAP (AFF x y)) := by
  funext p
  idx_vars p
  refine Eq.trans ?_ (knn_at _ p0 p1 p2 fun k => by rw [swap_at, aff_at]; exact Scalars.aff_ne_bot _ _).symm
  exact congrArg (fun f : Fin 196 → EReal => BitVec.ofNat 32 (top3 f p2 : ℕ)) (column x y p0 p1).symm

end Cert.Agree

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, its arguments end unchanged, and every semaphore counter ends at zero. -/
theorem reference_frame : quiescent_ReferenceIdeal (hReferenceIdeal := Cert.ReferenceIdeal.Gen.facts) := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

/-- The two named constants stand for the words the kernel holds. -/
theorem names : preserves_Kernel_KernelIdeal :=
  ⟨IdealRules.named_const.statement Cert.KernelIdeal.κ "inv_ln2" .f32 0x3FB8AA3B#32 (((Real.log 2)⁻¹ : ℝ) : EReal) rfl,
    IdealRules.named_const.statement Cert.KernelIdeal.κ "ln2" .f32 0x3F317218#32 ((Real.log 2 : ℝ) : EReal) rfl⟩

/-- On the same arguments the kernel's seven results are the reference's. -/
theorem agreement : algebraic_KernelIdeal_ReferenceIdeal (hKernelIdeal := Cert.KernelIdeal.Gen.facts)
    (hReferenceIdeal := Cert.ReferenceIdeal.Gen.facts) := by
  intro m g m' g' _ hargs
  refine ⟨_, _, _, _, _, _, _, Cert.KernelIdeal.Results.run m g,
    (θ_run Cert.ReferenceIdeal.defs _ _).mono (fun r h c => ?_) (Cert.ReferenceIdeal.Answers.run m' g')⟩
  obtain ⟨h0, h1, h2, h3, h4, h5, h6, h7, h8⟩ := h c
  obtain ⟨e0, e1⟩ := hargs c
  rw [e0, e1] at h0 h1 h2 h3 h4 h5 h6
  exact ⟨h0.trans (Agree.aff _ _).symm, h1.trans (Agree.rows _ _).symm, h2.trans (Agree.columns _ _).symm,
    h3.trans (Agree.row_mask _ _).symm, h4.trans (Agree.column_mask _ _).symm, h5.trans (Agree.row_near _ _).symm,
    h6.trans (Agree.column_near _ _).symm, h7, h8⟩

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, names, agreement⟩

end Cert.Proof

end

end
